-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S1000000 : Shape := ⟨1, ![1000000]⟩
abbrev S32x1000000 : Shape := ⟨2, ![32, 1000000]⟩
abbrev S_ : Shape := ⟨0, ![]⟩

class Facts : Prop where
  bcast_S_S1000000 : S_.BroadcastsInDim S1000000 (![] : Fin 0 → Fin S1000000.rank)
  reducesTo_S1000000_S_d0 : S1000000.ReducesTo [0] S_
  h_S_ : 0 < S_.numel

variable [Facts]

def fn {F : FTy → Type} [FloatOps F] (main_arg0 : FVec F S1000000 .f32) (main_arg1 : FVec F S32x1000000 .f32) (main_arg2 : IVec S1000000 32) : IVec S_ 1 :=
  let main_c : IVec S_ 32 := constantI S_ 32 0#32
  let main_v0 : IVec S1000000 32 := broadcastInDim S1000000 ![] bcast_S_S1000000 main_c
  let main_v1 : IVec S1000000 1 := cmpi .sge main_arg2 main_v0
  let main_c_0 : IVec S_ 32 := constantI S_ 32 32#32
  let main_v2 : IVec S1000000 32 := broadcastInDim S1000000 ![] bcast_S_S1000000 main_c_0
  let main_v3 : IVec S1000000 1 := cmpi .slt main_arg2 main_v2
  let main_v4 : IVec S1000000 1 := andi main_v1 main_v3
  let main_c_1 : IVec S_ 1 := constantI S_ 1 1#1
  let main_v5 : IVec S_ 1 := (fun x v => Host.reduce IntOp.andi x v reducesTo_S1000000_S_d0 h_S_) main_v4 main_c_1
  main_v5
-- ==== Kernel.lean ====
abbrev S1000000 : Shape := ⟨1, ![1000000]⟩
abbrev S32x1000000 : Shape := ⟨2, ![32, 1000000]⟩
abbrev S32x1024 : Shape := ⟨2, ![32, 1024]⟩
abbrev S1024 : Shape := ⟨1, ![1024]⟩
abbrev S_ : Shape := ⟨0, ![]⟩
abbrev S16 : Shape := ⟨1, ![16]⟩
abbrev S737856 : Shape := ⟨1, ![737856]⟩
abbrev S65536 : Shape := ⟨1, ![65536]⟩
abbrev S32x65536 : Shape := ⟨2, ![32, 65536]⟩
abbrev S1x65536 : Shape := ⟨2, ![1, 65536]⟩

abbrev nBuf : Table → Nat
  | .hbm => 7
  | .local .tc .vmem => 8
  | .local .scVector .vmem => 8
  | _ => 0

abbrev bufTy : (tb : Table) → Fin (nBuf tb) → BufTy
  | .hbm, ⟨0, _⟩ => ⟨S1000000, .f32⟩
  | .hbm, ⟨1, _⟩ => ⟨S32x1000000, .f32⟩
  | .hbm, ⟨2, _⟩ => ⟨S1000000, .i32⟩
  | .hbm, ⟨3, _⟩ => ⟨S1000000, .f32⟩
  | .hbm, ⟨4, _⟩ => ⟨S737856, .f32⟩
  | .hbm, ⟨5, _⟩ => ⟨S_, .i32⟩
  | .hbm, ⟨6, _⟩ => ⟨S1000000, .f32⟩
  | .local .tc .vmem, ⟨0, _⟩ => ⟨S65536, .f32⟩
  | .local .tc .vmem, ⟨1, _⟩ => ⟨S65536, .f32⟩
  | .local .tc .vmem, ⟨2, _⟩ => ⟨S65536, .i32⟩
  | .local .tc .vmem, ⟨3, _⟩ => ⟨S65536, .i32⟩
  | .local .tc .vmem, ⟨4, _⟩ => ⟨S32x65536, .f32⟩
  | .local .tc .vmem, ⟨5, _⟩ => ⟨S32x65536, .f32⟩
  | .local .tc .vmem, ⟨6, _⟩ => ⟨S65536, .f32⟩
  | .local .tc .vmem, ⟨7, _⟩ => ⟨S65536, .f32⟩
  | .local .scVector .vmem, ⟨0, _⟩ => ⟨S32x1024, .f32⟩
  | .local .scVector .vmem, ⟨1, _⟩ => ⟨S1024, .f32⟩
  | .local .scVector .vmem, ⟨2, _⟩ => ⟨S1024, .i32⟩
  | .local .scVector .vmem, ⟨3, _⟩ => ⟨S1024, .f32⟩
  | .local .scVector .vmem, ⟨4, _⟩ => ⟨S32x1024, .f32⟩
  | .local .scVector .vmem, ⟨5, _⟩ => ⟨S1024, .f32⟩
  | .local .scVector .vmem, ⟨6, _⟩ => ⟨S1024, .i32⟩
  | .local .scVector .vmem, ⟨7, _⟩ => ⟨S1024, .f32⟩
  | _, _ => ⟨S1000000, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 14 → Bool
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTables nBuf rfl bufTy 4 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_v0_scv : Ref sig .scVector := ⟨.hbm, 3, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 32 := Scalar.addi v1 c0_i32
  let c1024_i32 : BitVec 32 := 1024#32
  let v4 : BitVec 32 := Scalar.muli v3 c1024_i32
  v4
def k0_off1 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v3 : BitVec 32 := Scalar.addi v1 c0_i32
  let c1024_i32 : BitVec 32 := 1024#32
  let v4 : BitVec 32 := Scalar.muli v3 c1024_i32
  let v5 : BitVec 32 := v4
  ![v5.toNat]
def k0_off2 (i : grid0.Coords) (c0_i32 : BitVec 32) : Fin 2 → Nat :=
  let c0_i32_0 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v3 : BitVec 32 := Scalar.addi v1 c0_i32
  let c1024_i32 : BitVec 32 := 1024#32
  let v4 : BitVec 32 := Scalar.muli v3 c1024_i32
  let v5 : BitVec 32 := v4
  ![0, v5.toNat]
def k0_mult2 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v12 : BitVec 32 := Scalar.addi v1 c32_i32
  let c1024_i32_2 : BitVec 32 := 1024#32
  let v13 : BitVec 32 := Scalar.muli v12 c1024_i32_2
  v13
@[reducible] def k0_t1_loop : Scf.Loop 32 :=
  let c0_i32_8 : BitVec 32 := 0#32
  let c64_i32 : BitVec 32 := 64#32
  let v27 : BitVec 32 := Scalar.addi c0_i32_8 c64_i32
  let c1_i32 : BitVec 32 := 1#32
  ⟨c0_i32_8, v27, c1_i32⟩
def k0_off3 (k0_t1 : Fin k0_t1_loop.trips) : Fin 1 → Nat :=
  let c0_i32_8 : BitVec 32 := 0#32
  let c1_i32 : BitVec 32 := 1#32
  let arg20 : BitVec 32 := Scf.iv c0_i32_8 c1_i32 k0_t1
  let c16_i32 : BitVec 32 := 16#32
  let v187 : BitVec 32 := Scalar.muli arg20 c16_i32
  let v188 : Index := Scalar.indexCast v187
  ![v188.toNat]

def k0_chk1 (v195 : IVec S16 32) (v197 : IVec S16 32) : Prop :=
  (∀ a x, ((![v195, v197] : Fin 2 → IVec S16 32) a x).toNat < S32x1024.size a)
theorem k0_idx1_inb : ∀ (v195 : IVec S16 32) (v197 : IVec S16 32) (k0_hw1 : k0_chk1 v195 v197), ∀ a x, ((![v195, v197] : Fin 2 → IVec S16 32) a x).toNat < S32x1024.size a := fun v195 v197 k0_hw1 => k0_hw1
def k0_off4 (k0_t1 : Fin k0_t1_loop.trips) : Fin 1 → Nat :=
  let c0_i32_8 : BitVec 32 := 0#32
  let c1_i32 : BitVec 32 := 1#32
  let arg20 : BitVec 32 := Scf.iv c0_i32_8 c1_i32 k0_t1
  let c16_i32 : BitVec 32 := 16#32
  let v187 : BitVec 32 := Scalar.muli arg20 c16_i32
  let v202 : Index := Scalar.indexCast v187
  ![v202.toNat]
def k0_mult3 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_10 : BitVec 32 := 0#32
  let v28 : BitVec 32 := Scalar.addi v1 c0_i32_10
  let c1024_i32_11 : BitVec 32 := 1024#32
  let v29 : BitVec 32 := Scalar.muli v28 c1024_i32_11
  v29
def k0_mult4 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32_12 : BitVec 32 := 64#32
  let v33 : BitVec 32 := Scalar.addi v1 c64_i32_12
  let c1024_i32_13 : BitVec 32 := 1024#32
  let v34 : BitVec 32 := Scalar.muli v33 c1024_i32_13
  v34
@[reducible] def k0_t2_loop : Scf.Loop 32 :=
  let c0_i32_19 : BitVec 32 := 0#32
  let c64_i32_20 : BitVec 32 := 64#32
  let v48 : BitVec 32 := Scalar.addi c0_i32_19 c64_i32_20
  let c1_i32_21 : BitVec 32 := 1#32
  ⟨c0_i32_19, v48, c1_i32_21⟩
def k0_off5 (k0_t2 : Fin k0_t2_loop.trips) : Fin 1 → Nat :=
  let c0_i32_19 : BitVec 32 := 0#32
  let c1_i32_21 : BitVec 32 := 1#32
  let arg20 : BitVec 32 := Scf.iv c0_i32_19 c1_i32_21 k0_t2
  let c16_i32 : BitVec 32 := 16#32
  let v187 : BitVec 32 := Scalar.muli arg20 c16_i32
  let v188 : Index := Scalar.indexCast v187
  ![v188.toNat]

def k0_chk2 (v195 : IVec S16 32) (v197 : IVec S16 32) : Prop :=
  (∀ a x, ((![v195, v197] : Fin 2 → IVec S16 32) a x).toNat < S32x1024.size a)
theorem k0_idx2_inb : ∀ (v195 : IVec S16 32) (v197 : IVec S16 32) (k0_hw2 : k0_chk2 v195 v197), ∀ a x, ((![v195, v197] : Fin 2 → IVec S16 32) a x).toNat < S32x1024.size a := fun v195 v197 k0_hw2 => k0_hw2
def k0_off6 (k0_t2 : Fin k0_t2_loop.trips) : Fin 1 → Nat :=
  let c0_i32_19 : BitVec 32 := 0#32
  let c1_i32_21 : BitVec 32 := 1#32
  let arg20 : BitVec 32 := Scf.iv c0_i32_19 c1_i32_21 k0_t2
  let c16_i32 : BitVec 32 := 16#32
  let v187 : BitVec 32 := Scalar.muli arg20 c16_i32
  let v202 : Index := Scalar.indexCast v187
  ![v202.toNat]
def k0_mult5 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_23 : BitVec 32 := 32#32
  let v49 : BitVec 32 := Scalar.addi v1 c32_i32_23
  let c1024_i32_24 : BitVec 32 := 1024#32
  let v50 : BitVec 32 := Scalar.muli v49 c1024_i32_24
  v50
def k0_mult6 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c96_i32 : BitVec 32 := 96#32
  let v54 : BitVec 32 := Scalar.addi v1 c96_i32
  let c1024_i32_25 : BitVec 32 := 1024#32
  let v55 : BitVec 32 := Scalar.muli v54 c1024_i32_25
  v55
@[reducible] def k0_t3_loop : Scf.Loop 32 :=
  let c0_i32_31 : BitVec 32 := 0#32
  let c64_i32_32 : BitVec 32 := 64#32
  let v71 : BitVec 32 := Scalar.addi c0_i32_31 c64_i32_32
  let c1_i32_33 : BitVec 32 := 1#32
  ⟨c0_i32_31, v71, c1_i32_33⟩
def k0_off7 (k0_t3 : Fin k0_t3_loop.trips) : Fin 1 → Nat :=
  let c0_i32_31 : BitVec 32 := 0#32
  let c1_i32_33 : BitVec 32 := 1#32
  let arg20 : BitVec 32 := Scf.iv c0_i32_31 c1_i32_33 k0_t3
  let c16_i32 : BitVec 32 := 16#32
  let v187 : BitVec 32 := Scalar.muli arg20 c16_i32
  let v188 : Index := Scalar.indexCast v187
  ![v188.toNat]

def k0_chk3 (v195 : IVec S16 32) (v197 : IVec S16 32) : Prop :=
  (∀ a x, ((![v195, v197] : Fin 2 → IVec S16 32) a x).toNat < S32x1024.size a)
theorem k0_idx3_inb : ∀ (v195 : IVec S16 32) (v197 : IVec S16 32) (k0_hw3 : k0_chk3 v195 v197), ∀ a x, ((![v195, v197] : Fin 2 → IVec S16 32) a x).toNat < S32x1024.size a := fun v195 v197 k0_hw3 => k0_hw3
def k0_off8 (k0_t3 : Fin k0_t3_loop.trips) : Fin 1 → Nat :=
  let c0_i32_31 : BitVec 32 := 0#32
  let c1_i32_33 : BitVec 32 := 1#32
  let arg20 : BitVec 32 := Scf.iv c0_i32_31 c1_i32_33 k0_t3
  let c16_i32 : BitVec 32 := 16#32
  let v187 : BitVec 32 := Scalar.muli arg20 c16_i32
  let v202 : Index := Scalar.indexCast v187
  ![v202.toNat]
def k0_mult7 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32_35 : BitVec 32 := 64#32
  let v72 : BitVec 32 := Scalar.addi v1 c64_i32_35
  let c1024_i32_36 : BitVec 32 := 1024#32
  let v73 : BitVec 32 := Scalar.muli v72 c1024_i32_36
  v73
def k0_mult8 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v77 : BitVec 32 := Scalar.addi v1 c128_i32
  let c1024_i32_37 : BitVec 32 := 1024#32
  let v78 : BitVec 32 := Scalar.muli v77 c1024_i32_37
  v78
@[reducible] def k0_t4_loop : Scf.Loop 32 :=
  let c0_i32_43 : BitVec 32 := 0#32
  let c64_i32_44 : BitVec 32 := 64#32
  let v94 : BitVec 32 := Scalar.addi c0_i32_43 c64_i32_44
  let c1_i32_45 : BitVec 32 := 1#32
  ⟨c0_i32_43, v94, c1_i32_45⟩
def k0_off9 (k0_t4 : Fin k0_t4_loop.trips) : Fin 1 → Nat :=
  let c0_i32_43 : BitVec 32 := 0#32
  let c1_i32_45 : BitVec 32 := 1#32
  let arg20 : BitVec 32 := Scf.iv c0_i32_43 c1_i32_45 k0_t4
  let c16_i32 : BitVec 32 := 16#32
  let v187 : BitVec 32 := Scalar.muli arg20 c16_i32
  let v188 : Index := Scalar.indexCast v187
  ![v188.toNat]

def k0_chk4 (v195 : IVec S16 32) (v197 : IVec S16 32) : Prop :=
  (∀ a x, ((![v195, v197] : Fin 2 → IVec S16 32) a x).toNat < S32x1024.size a)
theorem k0_idx4_inb : ∀ (v195 : IVec S16 32) (v197 : IVec S16 32) (k0_hw4 : k0_chk4 v195 v197), ∀ a x, ((![v195, v197] : Fin 2 → IVec S16 32) a x).toNat < S32x1024.size a := fun v195 v197 k0_hw4 => k0_hw4
def k0_off10 (k0_t4 : Fin k0_t4_loop.trips) : Fin 1 → Nat :=
  let c0_i32_43 : BitVec 32 := 0#32
  let c1_i32_45 : BitVec 32 := 1#32
  let arg20 : BitVec 32 := Scf.iv c0_i32_43 c1_i32_45 k0_t4
  let c16_i32 : BitVec 32 := 16#32
  let v187 : BitVec 32 := Scalar.muli arg20 c16_i32
  let v202 : Index := Scalar.indexCast v187
  ![v202.toNat]
def k0_mult9 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c96_i32_47 : BitVec 32 := 96#32
  let v95 : BitVec 32 := Scalar.addi v1 c96_i32_47
  let c1024_i32_48 : BitVec 32 := 1024#32
  let v96 : BitVec 32 := Scalar.muli v95 c1024_i32_48
  v96
def k0_mult10 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c160_i32 : BitVec 32 := 160#32
  let v100 : BitVec 32 := Scalar.addi v1 c160_i32
  let c1024_i32_49 : BitVec 32 := 1024#32
  let v101 : BitVec 32 := Scalar.muli v100 c1024_i32_49
  v101
@[reducible] def k0_t5_loop : Scf.Loop 32 :=
  let c0_i32_55 : BitVec 32 := 0#32
  let c64_i32_56 : BitVec 32 := 64#32
  let v117 : BitVec 32 := Scalar.addi c0_i32_55 c64_i32_56
  let c1_i32_57 : BitVec 32 := 1#32
  ⟨c0_i32_55, v117, c1_i32_57⟩
def k0_off11 (k0_t5 : Fin k0_t5_loop.trips) : Fin 1 → Nat :=
  let c0_i32_55 : BitVec 32 := 0#32
  let c1_i32_57 : BitVec 32 := 1#32
  let arg20 : BitVec 32 := Scf.iv c0_i32_55 c1_i32_57 k0_t5
  let c16_i32 : BitVec 32 := 16#32
  let v187 : BitVec 32 := Scalar.muli arg20 c16_i32
  let v188 : Index := Scalar.indexCast v187
  ![v188.toNat]

def k0_chk5 (v195 : IVec S16 32) (v197 : IVec S16 32) : Prop :=
  (∀ a x, ((![v195, v197] : Fin 2 → IVec S16 32) a x).toNat < S32x1024.size a)
theorem k0_idx5_inb : ∀ (v195 : IVec S16 32) (v197 : IVec S16 32) (k0_hw5 : k0_chk5 v195 v197), ∀ a x, ((![v195, v197] : Fin 2 → IVec S16 32) a x).toNat < S32x1024.size a := fun v195 v197 k0_hw5 => k0_hw5
def k0_off12 (k0_t5 : Fin k0_t5_loop.trips) : Fin 1 → Nat :=
  let c0_i32_55 : BitVec 32 := 0#32
  let c1_i32_57 : BitVec 32 := 1#32
  let arg20 : BitVec 32 := Scf.iv c0_i32_55 c1_i32_57 k0_t5
  let c16_i32 : BitVec 32 := 16#32
  let v187 : BitVec 32 := Scalar.muli arg20 c16_i32
  let v202 : Index := Scalar.indexCast v187
  ![v202.toNat]
def k0_mult11 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_59 : BitVec 32 := 128#32
  let v118 : BitVec 32 := Scalar.addi v1 c128_i32_59
  let c1024_i32_60 : BitVec 32 := 1024#32
  let v119 : BitVec 32 := Scalar.muli v118 c1024_i32_60
  v119
def k0_mult12 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c192_i32 : BitVec 32 := 192#32
  let v123 : BitVec 32 := Scalar.addi v1 c192_i32
  let c1024_i32_61 : BitVec 32 := 1024#32
  let v124 : BitVec 32 := Scalar.muli v123 c1024_i32_61
  v124
@[reducible] def k0_t6_loop : Scf.Loop 32 :=
  let c0_i32_67 : BitVec 32 := 0#32
  let c64_i32_68 : BitVec 32 := 64#32
  let v140 : BitVec 32 := Scalar.addi c0_i32_67 c64_i32_68
  let c1_i32_69 : BitVec 32 := 1#32
  ⟨c0_i32_67, v140, c1_i32_69⟩
def k0_off13 (k0_t6 : Fin k0_t6_loop.trips) : Fin 1 → Nat :=
  let c0_i32_67 : BitVec 32 := 0#32
  let c1_i32_69 : BitVec 32 := 1#32
  let arg20 : BitVec 32 := Scf.iv c0_i32_67 c1_i32_69 k0_t6
  let c16_i32 : BitVec 32 := 16#32
  let v187 : BitVec 32 := Scalar.muli arg20 c16_i32
  let v188 : Index := Scalar.indexCast v187
  ![v188.toNat]

def k0_chk6 (v195 : IVec S16 32) (v197 : IVec S16 32) : Prop :=
  (∀ a x, ((![v195, v197] : Fin 2 → IVec S16 32) a x).toNat < S32x1024.size a)
theorem k0_idx6_inb : ∀ (v195 : IVec S16 32) (v197 : IVec S16 32) (k0_hw6 : k0_chk6 v195 v197), ∀ a x, ((![v195, v197] : Fin 2 → IVec S16 32) a x).toNat < S32x1024.size a := fun v195 v197 k0_hw6 => k0_hw6
def k0_off14 (k0_t6 : Fin k0_t6_loop.trips) : Fin 1 → Nat :=
  let c0_i32_67 : BitVec 32 := 0#32
  let c1_i32_69 : BitVec 32 := 1#32
  let arg20 : BitVec 32 := Scf.iv c0_i32_67 c1_i32_69 k0_t6
  let c16_i32 : BitVec 32 := 16#32
  let v187 : BitVec 32 := Scalar.muli arg20 c16_i32
  let v202 : Index := Scalar.indexCast v187
  ![v202.toNat]
def k0_mult13 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c160_i32_71 : BitVec 32 := 160#32
  let v141 : BitVec 32 := Scalar.addi v1 c160_i32_71
  let c1024_i32_72 : BitVec 32 := 1024#32
  let v142 : BitVec 32 := Scalar.muli v141 c1024_i32_72
  v142
def k0_mult14 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c224_i32 : BitVec 32 := 224#32
  let v146 : BitVec 32 := Scalar.addi v1 c224_i32
  let c1024_i32_73 : BitVec 32 := 1024#32
  let v147 : BitVec 32 := Scalar.muli v146 c1024_i32_73
  v147
@[reducible] def k0_t7_loop : Scf.Loop 32 :=
  let c0_i32_79 : BitVec 32 := 0#32
  let c64_i32_80 : BitVec 32 := 64#32
  let v163 : BitVec 32 := Scalar.addi c0_i32_79 c64_i32_80
  let c1_i32_81 : BitVec 32 := 1#32
  ⟨c0_i32_79, v163, c1_i32_81⟩
def k0_off15 (k0_t7 : Fin k0_t7_loop.trips) : Fin 1 → Nat :=
  let c0_i32_79 : BitVec 32 := 0#32
  let c1_i32_81 : BitVec 32 := 1#32
  let arg20 : BitVec 32 := Scf.iv c0_i32_79 c1_i32_81 k0_t7
  let c16_i32 : BitVec 32 := 16#32
  let v187 : BitVec 32 := Scalar.muli arg20 c16_i32
  let v188 : Index := Scalar.indexCast v187
  ![v188.toNat]

def k0_chk7 (v195 : IVec S16 32) (v197 : IVec S16 32) : Prop :=
  (∀ a x, ((![v195, v197] : Fin 2 → IVec S16 32) a x).toNat < S32x1024.size a)
theorem k0_idx7_inb : ∀ (v195 : IVec S16 32) (v197 : IVec S16 32) (k0_hw7 : k0_chk7 v195 v197), ∀ a x, ((![v195, v197] : Fin 2 → IVec S16 32) a x).toNat < S32x1024.size a := fun v195 v197 k0_hw7 => k0_hw7
def k0_off16 (k0_t7 : Fin k0_t7_loop.trips) : Fin 1 → Nat :=
  let c0_i32_79 : BitVec 32 := 0#32
  let c1_i32_81 : BitVec 32 := 1#32
  let arg20 : BitVec 32 := Scf.iv c0_i32_79 c1_i32_81 k0_t7
  let c16_i32 : BitVec 32 := 16#32
  let v187 : BitVec 32 := Scalar.muli arg20 c16_i32
  let v202 : Index := Scalar.indexCast v187
  ![v202.toNat]
def k0_mult15 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c192_i32_83 : BitVec 32 := 192#32
  let v164 : BitVec 32 := Scalar.addi v1 c192_i32_83
  let c1024_i32_84 : BitVec 32 := 1024#32
  let v165 : BitVec 32 := Scalar.muli v164 c1024_i32_84
  v165
@[reducible] def k0_t8_loop : Scf.Loop 32 :=
  let c0_i32_88 : BitVec 32 := 0#32
  let c64_i32_89 : BitVec 32 := 64#32
  let v177 : BitVec 32 := Scalar.addi c0_i32_88 c64_i32_89
  let c1_i32_90 : BitVec 32 := 1#32
  ⟨c0_i32_88, v177, c1_i32_90⟩
def k0_off17 (k0_t8 : Fin k0_t8_loop.trips) : Fin 1 → Nat :=
  let c0_i32_88 : BitVec 32 := 0#32
  let c1_i32_90 : BitVec 32 := 1#32
  let arg20 : BitVec 32 := Scf.iv c0_i32_88 c1_i32_90 k0_t8
  let c16_i32 : BitVec 32 := 16#32
  let v187 : BitVec 32 := Scalar.muli arg20 c16_i32
  let v188 : Index := Scalar.indexCast v187
  ![v188.toNat]

def k0_chk8 (v195 : IVec S16 32) (v197 : IVec S16 32) : Prop :=
  (∀ a x, ((![v195, v197] : Fin 2 → IVec S16 32) a x).toNat < S32x1024.size a)
theorem k0_idx8_inb : ∀ (v195 : IVec S16 32) (v197 : IVec S16 32) (k0_hw8 : k0_chk8 v195 v197), ∀ a x, ((![v195, v197] : Fin 2 → IVec S16 32) a x).toNat < S32x1024.size a := fun v195 v197 k0_hw8 => k0_hw8
def k0_off18 (k0_t8 : Fin k0_t8_loop.trips) : Fin 1 → Nat :=
  let c0_i32_88 : BitVec 32 := 0#32
  let c1_i32_90 : BitVec 32 := 1#32
  let arg20 : BitVec 32 := Scf.iv c0_i32_88 c1_i32_90 k0_t8
  let c16_i32 : BitVec 32 := 16#32
  let v187 : BitVec 32 := Scalar.muli arg20 c16_i32
  let v202 : Index := Scalar.indexCast v187
  ![v202.toNat]
def k0_mult16 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c224_i32_92 : BitVec 32 := 224#32
  let v178 : BitVec 32 := Scalar.addi v1 c224_i32_92
  let c1024_i32_93 : BitVec 32 := 1024#32
  let v179 : BitVec 32 := Scalar.muli v178 c1024_i32_93
  v179
abbrev grid1 : Pipeline.Grid := ⟨1, ![12], ![false]⟩

def cc1_transform_0 (i : grid1.Coords) : Fin 1 → Nat :=
  let arg0 : BitVec 32 := BitVec.ofNat 32 (i 0).val
  let c4_i32 : BitVec 32 := 4#32
  let v0 : BitVec 32 := Scalar.addi arg0 c4_i32
  let c0_i32 : BitVec 32 := 0#32
  ![v0.toNat]

def cc1_transform_1 (i : grid1.Coords) : Fin 1 → Nat :=
  let arg0 : BitVec 32 := BitVec.ofNat 32 (i 0).val
  let c4_i32 : BitVec 32 := 4#32
  let v0 : BitVec 32 := Scalar.addi arg0 c4_i32
  let c0_i32 : BitVec 32 := 0#32
  ![v0.toNat]

def cc1_transform_2 (i : grid1.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![c0_i32.toNat, v0.toNat]

def cc1_transform_3 (i : grid1.Coords) : Fin 1 → Nat :=
  let arg0 : BitVec 32 := BitVec.ofNat 32 (i 0).val
  let c0_i32 : BitVec 32 := 0#32
  ![arg0.toNat]

abbrev stage1_0 : Fin 2 → Memref sig .tc .vmem S65536 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S65536 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S32x65536 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S65536 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1000000 : Shape := ⟨1, ![1000000]⟩
abbrev S32x1000000 : Shape := ⟨2, ![32, 1000000]⟩
abbrev S1x1000000 : Shape := ⟨2, ![1, 1000000]⟩
abbrev S31x1000000 : Shape := ⟨2, ![31, 1000000]⟩
abbrev S_ : Shape := ⟨0, ![]⟩
abbrev S1x1000000x1 : Shape := ⟨3, ![1, 1000000, 1]⟩
abbrev S1 : Shape := ⟨1, ![1]⟩
abbrev S1x1x1 : Shape := ⟨3, ![1, 1, 1]⟩

abbrev nBuf : Space → Nat
  | .hbm => 30
  | .vmem => 0
  | .smem => 0
  | _ => 0

abbrev bufTy : (tb : Table) → Fin (tcTables nBuf tb) → BufTy
  | .hbm, ⟨0, _⟩ => ⟨S1000000, .f32⟩
  | .hbm, ⟨1, _⟩ => ⟨S32x1000000, .f32⟩
  | .hbm, ⟨2, _⟩ => ⟨S1000000, .i32⟩
  | .hbm, ⟨3, _⟩ => ⟨S1x1000000, .f32⟩
  | .hbm, ⟨4, _⟩ => ⟨S31x1000000, .f32⟩
  | .hbm, ⟨5, _⟩ => ⟨S32x1000000, .f32⟩
  | .hbm, ⟨6, _⟩ => ⟨S1x1000000, .i32⟩
  | .hbm, ⟨7, _⟩ => ⟨S_, .i32⟩
  | .hbm, ⟨8, _⟩ => ⟨S1x1000000, .i32⟩
  | .hbm, ⟨9, _⟩ => ⟨S1x1000000, .i1⟩
  | .hbm, ⟨10, _⟩ => ⟨S_, .i32⟩
  | .hbm, ⟨11, _⟩ => ⟨S1x1000000, .i32⟩
  | .hbm, ⟨12, _⟩ => ⟨S1x1000000, .i32⟩
  | .hbm, ⟨13, _⟩ => ⟨S1x1000000, .i32⟩
  | .hbm, ⟨14, _⟩ => ⟨S1x1000000x1, .i32⟩
  | .hbm, ⟨15, _⟩ => ⟨S1, .i32⟩
  | .hbm, ⟨16, _⟩ => ⟨S_, .i32⟩
  | .hbm, ⟨17, _⟩ => ⟨S1x1000000x1, .i32⟩
  | .hbm, ⟨18, _⟩ => ⟨S1x1000000x1, .i1⟩
  | .hbm, ⟨19, _⟩ => ⟨S1x1x1, .i32⟩
  | .hbm, ⟨20, _⟩ => ⟨S1x1000000x1, .i32⟩
  | .hbm, ⟨21, _⟩ => ⟨S1x1000000x1, .i1⟩
  | .hbm, ⟨22, _⟩ => ⟨S1x1000000x1, .i1⟩
  | .hbm, ⟨23, _⟩ => ⟨S_, .i1⟩
  | .hbm, ⟨24, _⟩ => ⟨S1x1000000, .i1⟩
  | .hbm, ⟨25, _⟩ => ⟨S1x1000000, .f32⟩
  | .hbm, ⟨26, _⟩ => ⟨S_, .f32⟩
  | .hbm, ⟨27, _⟩ => ⟨S1x1000000, .f32⟩
  | .hbm, ⟨28, _⟩ => ⟨S1x1000000, .f32⟩
  | .hbm, ⟨29, _⟩ => ⟨S1000000, .f32⟩
  | _, _ => ⟨S1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_cst : Ref sig .tc := ⟨.hbm, 26, rfl⟩
abbrev main_call0_v14 : Ref sig .tc := ⟨.hbm, 27, rfl⟩
abbrev main_v4 : Ref sig .tc := ⟨.hbm, 28, rfl⟩
abbrev main_v5 : Ref sig .tc := ⟨.hbm, 29, rfl⟩

abbrev nD : Nat := 1
abbrev τ : Topo := Topo.v7x

variable {F : FTy → Type} [FloatOps F]
-- ==== Proof.Setup.lean ====
/-
  The program as the launch theorem of a SparseCore program sees it: the labels and definitions of the
  whole module, the SparseCore configuration, and the resource algebra every proof below is stated over.

  The user algebra has three components side by side: the rounds of the launch's handshakes between the
  TensorCore, the sequencers and the vector subcores; the rounds of the staging buffers of the
  TensorCore kernel's pipeline; and the counters that follow the copies each vector subcore issues.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Hist

open Cert.KernelIdeal Cert.KernelIdeal.Gen
open Idealize.ShloMosaic
open Idealize.ShloMosaic.SparseCore (S V T)
open Idealize.ShloMosaic.Rounds
open Idealize.SL Idealize.SL.RA Idealize.SL.Sem

variable {F : FTy → Type}

/-- The labels of the whole program: the kernels' own, and the pipeline regions' entries. -/
abbrev ΛP : Labels := Pipeline.Sig Λ₀ (Fin 1) fun p => (pcfgs (F := F) p).Adm

/-- The SparseCore configuration: the one vector call. -/
abbrev K : SparseCore.Cfg τ sig (ΛP (F := F)) 1 := sc (F := F)

/-- The definitions of the labels below the SparseCore layer. -/
abbrev D [FloatOps F] : Defs nD τ sig (Elt F) (ΛP (F := F)) := Pipeline.defs pcfgs defs₀

/-- Nothing recurses: the variants are trivial. -/
abbrev 𝒱₀ : Variants := Variants.none
/-- The variants of the labels with the pipeline's. -/
abbrev 𝒱 : Variants := 𝒱₀.lift

/-- The launch's own semaphores and buffers are placed as the launch theorem asks. -/
theorem facts : (K (F := F)).Facts :=
  ⟨show sc_start ≠ sc_taskDone by decide,
    show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-- The rounds of the launch's handshakes. -/
abbrev UH : Type := URounds (GSem nD τ sig) ℕ

/-- The user algebra: handshakes, staging rounds, copy counters. -/
abbrev UU : Type := UH × (UR sig nD τ × Counters)

/-- The machine's resources with the user algebra beside them. -/
abbrev MM (F : FTy → Type) : Type := MT nD τ sig (SparseCore.Cfg.HIx 1) (Elt F) ℕ UU ℕ

/-- Where the handshakes' rounds live. -/
abbrev EH : Emb UH (MM F) := embL

/-- Where the staging rounds live. -/
abbrev EP : Emb (UR sig nD τ) (MM F) :=
  (Emb.inl : Emb (UR sig nD τ) (UR sig nD τ × Counters)).trans embR

/-- Where the copy counters live. -/
abbrev EC : UEmb Counters (MM F) := countersEmb (U := UU)

end Cert.Proof.Hist
-- ==== Proof.Ops.lean ====
/-
  One rule per memory operation of the vector subcores' kernel, each stated of a memref OWNED at known
  contents (`owns`): what a load reads, what a store leaves, what a gather reads, what a copy in flight
  will hand back, and what the wait for it hands back. They are stated once, for any memrefs, so that
  the same rule serves both halves of the double buffer and every chunk.
-/
module

public import proofs.«01_k».proof.Proof.Setup

@[expose] public section

noncomputable section

namespace Cert.Proof.Hist

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Transfers (Batch)

variable {F : FTy → Type} [FloatOps F]

/-- A thread's program under the kernels' own definitions, nothing bounding its calls. -/
abbrev wpT (c : Thread nD τ) {α : Type} (p : Prog (TpuEff nD τ sig (Elt F) Λ₀ c.2) α) (Q : α → sProp (MM F)) : sProp (MM F) :=
  wp frame (wpE (defs₀ (F := F)) 𝒱₀ c none) Set.univ p Q

variable {c : Thread nD τ} {α : Type} {Q : α → sProp (MM F)}

/-! ## Loads, stores, gathers -/

/-- A load through a rectangle of an owned memref continues at the memref's contents there. -/
theorem load_owns {cs : CoreSpace} {s : Shape} {e : EltTy} (m : Memref sig c.2.kind cs s e) {r : LoadRect s} {hl : m.view.LoadsAt r}
    {k : (r.shape.Idx → Elt F e) → Prog (TpuEff nD τ sig (Elt F) Λ₀ c.2) α} {q : PosShare TreeShare} {X : s.Idx → Elt F e} :
    (owns c m q X : sProp (MM F))
      ⊢ iprop((owns c m q X -∗ wpT c (k fun x => X (r.idx x)) Q) -∗ wpT c (Prog.lift (.load m r hl) >>= k) Q) := by
  conv_lhs => unfold owns
  iintro ⟨%f, %hf, H⟩ Hk
  iapply (wp_load (defs := defs₀ (F := F)) 𝒱₀ c none Set.univ (m := m) (r := r) (hl := hl) (k := k) (m.view.setOn_subset_set _)) $$ H
  iintro H
  rw [show m.view.readAt (Elt F) r f = fun x => X (r.idx x) from funext fun x => by rw [View.readAt_apply, hf]]
  iapply Hk
  unfold owns
  iexists f; isplitr; · ipureintro; exact hf
  iexact H

/-- An unmasked store through a rectangle of an owned memref lays the stored vector over its contents. -/
theorem store_owns {cs : CoreSpace} {s : Shape} {e : EltTy} (m : Memref sig c.2.kind cs s e) {r : Rect s} (hr : ∀ a, r.stride a = 1)
    {w : r.shape.Idx → Elt F e} {hx : (m.access r).Stores Finset.univ} {hm : Finset.univ = Finset.univ ∨ ∀ a, r.stride a = 1}
    {k : PUnit → Prog (TpuEff nD τ sig (Elt F) Λ₀ c.2) α} {X : s.Idx → Elt F e} :
    (owns c m fullShare X : sProp (MM F))
      ⊢ iprop((owns c m fullShare (r.overlay X w) -∗ wpT c (k ⟨⟩) Q)
          -∗ wpT c (Prog.lift (.store m r w Finset.univ hx hm) >>= k) Q) := by
  iintro H Hk
  ihave H' := (owns_slice_split c m fullShare r hr X) $$ H
  icases H' with ⟨Hs, %f, %hf, Hr⟩
  ihave Hs' := (show owns c (m.slice r hr) fullShare (fun i => X (r.emb i))
    ⊢ (iprop(∃ g, ⌜(m.slice r hr).view.read (Elt F) g = fun i => X (r.emb i)⌝ ∗ ((m.slice r hr).view.loc c ↦[(m.slice r hr).view.set]{fullShare} g)) : sProp (MM F))
      from .rfl) $$ Hs
  icases Hs' with ⟨%g, -, Hs⟩
  iapply (wp_store (defs := defs₀ (F := F)) 𝒱₀ c none Set.univ (m := m) (r := r) (w := w) (hx := hx) (hm := hm) (k := k)
    (S := (m.access r).set) ((m.access r).setOn_subset_set _)) $$ Hs
  iintro Hs
  iapply Hk
  rw [← hf]
  iapply (owns_slice_join c m fullShare r hr w f)
  isplitl [Hs]
  · ihave Hs' := (owns_intro c (m.slice r hr) fullShare ((m.access r).write (Elt F) g w Finset.univ)) $$ Hs
    rw [show (m.slice r hr).view.read (Elt F) ((m.access r).write (Elt F) g w Finset.univ) = w from View.read_write_univ _ _]
    iexact Hs'
  · iexact Hr

/-- A gather from an owned memref reads the contents at the indices given. -/
theorem gather_owns {s t : Shape} {e : EltTy} (m : Memref sig c.2.kind .vmem s e) {idxs : Fin s.rank → IVec t 32}
    {h : ∀ a x, (idxs a x).toNat < s.size a} {hl : m.view.Loads} {k : Vec F t e → Prog (TpuEff nD τ sig (Elt F) Λ₀ c.2) α}
    {q : PosShare TreeShare} {X : s.Idx → Elt F e} :
    (owns c m q X : sProp (MM F))
      ⊢ iprop((owns c m q X -∗ wpT c (k (loadIdx X idxs h)) Q) -∗ wpT c (SparseCore.vectorLoadIdx m idxs h hl >>= k) Q) := by
  conv_lhs => unfold owns
  iintro ⟨%f, %hf, H⟩ Hk
  iapply (SparseCore.wp_vectorLoadIdx (defs := defs₀ (F := F)) 𝒱₀ c none Set.univ (base := m) (idxs := idxs) (h := h) (hl := hl) (k := k)
    (S := m.view.set) (m.view.set_slice_subset _)) $$ H
  iintro H
  have hX : (m.access (.whole s)).read (Elt F) f = X := by
    rw [← hf]; funext x
    show m.view.read (Elt F) f ((Rect.whole s).emb x) = _
    rw [Rect.emb_whole_apply]
  rw [hX]
  iapply Hk
  unfold owns
  iexists f; isplitr; · ipureintro; exact hf
  iexact H

/-- A finished program gives its value. -/
theorem pure_step (a : α) : Q a ⊢ wpT c (pure a) Q := by
  show Q a ⊢ wp frame (wpE (defs₀ (F := F)) 𝒱₀ c none) Set.univ (pure a) Q
  rw [wp_pure]
  exact fupd_intro

/-- A program in two parts runs part by part. -/
theorem bind_step {β : Type} {p : Prog (TpuEff nD τ sig (Elt F) Λ₀ c.2) β} {f : β → Prog (TpuEff nD τ sig (Elt F) Λ₀ c.2) α} :
    wpT c p (fun b => wpT c (f b) Q) ⊢ wpT c (p >>= f) Q :=
  Entails.of_eq (wp_bind _ _ _ _ _ _).symm

/-- A side condition that holds is passed. -/
theorem assume_step {P : Prop} {d : Decidable P} {k : PLift P → Prog (TpuEff nD τ sig (Elt F) Λ₀ c.2) α} (h : P) :
    wpT c (k ⟨h⟩) Q ⊢ wpT c (Prog.lift (.assume P d) >>= k) Q :=
  Entails.of_eq (wp_assume_of (defs := defs₀ (F := F)) 𝒱₀ c none Set.univ h).symm

/-! ## Copies -/

/-- What a copy hands back when it completes: the destination at the source's contents, and the source. -/
abbrev Landed (c : Thread nD τ) {sp sp' : Space} {s : Shape} {e : EltTy} (src : Memref sig c.2.kind sp s e) (dst : Memref sig c.2.kind sp' s e)
    (X : s.Idx → Elt F e) : sProp (MM F) :=
  iprop(owns c dst fullShare X ∗ owns c src fullShare X)

/-- A local copy issued as the next transfer of a batch: the source and the destination go in, and the batch's
    delivery for it is the destination at the source's contents beside the source. -/
theorem issue_owns {sp sp' : Space} {s : Shape} {e : EltTy} {n : ℕ} (src : Memref sig c.2.kind sp s e) (dst : Memref sig c.2.kind sp' s e)
    {sm : SemLoc sig} {hsrc : src.view.WordExact} {hdst : dst.view.WordExact} {hsem : DmaTarget.Typed (nD := nD) sp sm (.here dst)}
    {k : PUnit → Prog (TpuEff nD τ sig (Elt F) Λ₀ c.2) α} {X Y : s.Idx → Elt F e} {N : ℕ} {D : Fin n → sProp (MM F)} (j : ℕ)
    (hN : dst.view.amount sm = N) (hj : j < n) (hD : D ⟨j, hj⟩ = Landed c src dst X) :
    iprop(owns c src fullShare X ∗ owns c dst fullShare Y ∗ Batch EC c sm none N D j 0)
      ⊢ iprop((Batch EC c sm none N D (j + 1) 0 -∗ wpT c (k ⟨⟩) Q)
          -∗ wpT c (Prog.lift (.enqueueDma src (.here dst) sm hsrc hdst hsem) >>= k) Q) := by
  conv_lhs => unfold owns
  iintro ⟨⟨%fs, %hfs, Hs⟩, ⟨%fd, -, Hd⟩, HB⟩ Hk
  iapply (Transfers.wp_dmaBatch EC (defs := defs₀ (F := F)) 𝒱₀ c none (src := src) (dst := dst) (via := .same) (hsrc := hsrc) (hdst := hdst)
    (hsem := hsem) (k := k) (fs := fs) (Sd := dst.view.set) (fd := fd) (D := D) (j := j) (u := 0) none N hN subset_rfl hj (Nat.zero_le _)
    (by
      rw [hD]
      refine BI.sep_mono ?_ ?_
      · refine (owns_intro c dst fullShare _).trans (Entails.of_eq ?_)
        rw [View.read_write_univ, ← hfs]
        first | done | rfl
      · exact (owns_intro c src fullShare _).trans (Entails.of_eq (by rw [hfs])))) $$ [Hs Hd HB]
  · isplitl [Hs]; · iexact Hs
    isplitl [Hd]; · iexact Hd
    iexact HB
  iexact Hk

/-- The wait for one copy of a batch of two, the other still to be waited for. -/
theorem wait_first {sp sp' : Space} {s s' : Shape} {e e' : EltTy} {sem : DmaSem sig} {κ' : Kind}
    (srcw : Memref sig c.2.kind sp' s' e') (dstw : Memref sig κ' sp s e) {hsrc : srcw.view.WordExact} {hdst : dstw.view.WordExact}
    {k : PUnit → Prog (TpuEff nD τ sig (Elt F) Λ₀ c.2) α} {N : ℕ} (hN : dstw.view.dmaCredit = N) (hN0 : 0 < N)
    {D : Fin 2 → sProp (MM F)} {O : CellTallies nD τ sig (SparseCore.Cfg.HIx 1)} {W : Waits sig (SparseCore.Cfg.HIx 1)} :
    iprop(Batch EC c (.dma sem) none N D 2 0 ∗ owes c O W ∗ MayWait c (.dma sem) none O)
      ⊢ iprop((iprop(Batch EC c (.dma sem) none N D 2 N ∗ owes c O (insert (SemLoc.dma sem, none) W)) -∗ wpT c (k ⟨⟩) Q)
          -∗ wpT c (Prog.lift (.waitDma2 sem srcw dstw hsrc hdst) >>= k) Q) := by
  have h := Transfers.wp_waitBatchO EC (defs := defs₀ (F := F)) 𝒱₀ c none (sem := sem) (srcw := srcw) (dstw := dstw) (hsrc := hsrc) (hdst := hdst) (k := k) (Q := Q)
    none hN (D := D) (u := 0) (by omega) (O := O) (W := W)
  rw [Nat.zero_add] at h
  exact h

/-- The last wait of a batch: every copy of it has completed and is handed back, the semaphore at zero. -/
theorem wait_last {sp sp' : Space} {s s' : Shape} {e e' : EltTy} {sem : DmaSem sig} {κ' : Kind} {n : ℕ}
    (srcw : Memref sig c.2.kind sp' s' e') (dstw : Memref sig κ' sp s e) {hsrc : srcw.view.WordExact} {hdst : dstw.view.WordExact}
    {k : PUnit → Prog (TpuEff nD τ sig (Elt F) Λ₀ c.2) α} {N u : ℕ} (hN : dstw.view.dmaCredit = N) (hN0 : 0 < N) (hu : u + N = N * n)
    {D : Fin n → sProp (MM F)} {O : CellTallies nD τ sig (SparseCore.Cfg.HIx 1)} {W : Waits sig (SparseCore.Cfg.HIx 1)} :
    iprop(Batch EC c (.dma sem) none N D n u ∗ owes c O W ∗ MayWait c (.dma sem) none O)
      ⊢ iprop((iprop(bigSep Finset.univ D ∗ semVal (c, .dma sem) 0 ∗ owes c O (insert (SemLoc.dma sem, none) W)) -∗ wpT c (k ⟨⟩) Q)
          -∗ wpT c (Prog.lift (.waitDma2 sem srcw dstw hsrc hdst) >>= k) Q) :=
  Transfers.wp_waitBatchLastO EC (defs := defs₀ (F := F)) 𝒱₀ c none (sem := sem) (srcw := srcw) (dstw := dstw) (hsrc := hsrc) (hdst := hdst) (k := k) (Q := Q)
    none hN hN0 hu (D := D) (O := O) (W := W)

end Cert.Proof.Hist
-- ==== Proof.Trip.lean ====
/-
  The loop of one chunk, once for all eight: sixty-four trips of sixteen lanes. A trip loads sixteen
  delays and sixteen current values, gathers from the history slab at row `delay - 1` (clamped below at
  zero), and stores the current value where the delay is zero and the gathered one elsewhere. `trip` is
  that region over any buffers; each chunk's own loop region is it, by unfolding, at the chunk's buffers.
-/
module

public import proofs.«01_k».proof.Proof.Ops

@[expose] public section

noncomputable section

namespace Cert.Proof.Hist

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The lane numbers the kernel computes once. -/
abbrev lanes : IVec S16 32 := iota .scVector S16 32 [0] iota_S16_d0_w32_scVector

/-- One trip of a chunk's loop: sixteen lanes from position `16 t` on. -/
def trip {x : Fin τ.nSC} {y : Fin τ.nSub} (dM : Memref sig .scVector .vmem S1024 .i32) (aM : Memref sig .scVector .vmem S1024 .f32)
    (oM : Memref sig .scVector .vmem S1024 .f32) (hM : Memref sig .scVector .vmem S32x1024 .f32) (v2 : IVec S16 32)
    (t : Fin k0_t1_loop.trips) (_ : Unit) : Prog (TpuEff nD τ sig (Elt F) Λ₀ (.scVector x y)) Unit := do
  let d : Vec F S16 .i32 ← Prog.lift (.load dM (Rect.unit (s := S1024) (k0_off3 t) S16.size (k0_off3_inb t)).toLoadRect (View.loadsAt_vmem h_S16))
  let a : Vec F S16 .f32 ← Prog.lift (.load aM (Rect.unit (s := S1024) (k0_off3 t) S16.size (k0_off3_inb t)).toLoadRect (View.loadsAt_vmem h_S16))
  let hw ← Prog.lift (TpuEff.assume (k0_chk1 (k0_pay1 (F := F) d) (k0_pay5 v2 t)) (k0_chk1.dec _ _))
  let g : Vec F S16 .f32 ← SparseCore.vectorLoadIdx hM ![k0_pay1 (F := F) d, k0_pay5 v2 t] (k0_idx1_inb _ _ hw.down) (View.loads_vmem h_S32x1024)
  let _ : Vec F S16 .f32 ← Prog.lift (.load oM (Rect.unit (s := S1024) (k0_off4 t) S16.size (k0_off4_inb t)).toLoadRect (View.loadsAt_vmem h_S16))
  Prog.lift (.store oM (Rect.unit (s := S1024) (k0_off4 t) S16.size (k0_off4_inb t)) (k0_pay3 d a g) Finset.univ
    (View.stores_vmem_bits_univ h_S16 rfl) (.inl rfl))
  pure ⟨⟩

/-! ## What a chunk's output block holds -/

/-- The slab position a delay and a column name: row `delay - 1` (zero for a delay of zero), that column. -/
def slabIx (d : BitVec 32) (j : Fin 1024) : S32x1024.Idx
  | ⟨0, _⟩ => (Fin.ofNat 32 (d.toNat - 1) : Fin 32)
  | ⟨1, _⟩ => j
  | ⟨_ + 2, h⟩ => absurd h (Nat.not_lt.2 (Nat.le_add_left _ _))

/-- A chunk's output: the current value where the delay is zero, the slab's at the delay elsewhere. -/
def outBlk (D : S1024.Idx → Elt F .i32) (A : S1024.Idx → Elt F .f32) (H : S32x1024.Idx → Elt F .f32) : S1024.Idx → Elt F .f32 :=
  fun x => if (D x : BitVec 32) = 0#32 then A x else H (slabIx (D x) (x 0))

/-- The induction variable times sixteen, as a number. -/
theorem base_toNat (t : Fin k0_t1_loop.trips) (j : Fin 16) :
    (Scalar.muli (Scf.iv 0#32 1#32 t) 16#32 + BitVec.ofNat 32 j.val : BitVec 32).toNat = 16 * t.val + j.val := by
  have ht : t.val < 64 := lt_of_lt_of_eq t.isLt (by decide)
  have hj := j.isLt
  have h : (Scalar.muli (Scf.iv 0#32 1#32 t) 16#32 : BitVec 32) = BitVec.ofNat 32 (16 * t.val) := by
    show (0#32 + BitVec.ofNat 32 t.val * 1#32) * 16#32 = _
    apply BitVec.eq_of_toNat_eq
    simp only [BitVec.toNat_mul, BitVec.toNat_add, BitVec.toNat_ofNat]
    omega
  rw [h, BitVec.toNat_add, BitVec.toNat_ofNat, BitVec.toNat_ofNat]
  omega

/-- The column a lane of a trip gathers from. -/
theorem col_toNat (t : Fin k0_t1_loop.trips) (x : S16.Idx) : (k0_pay5 lanes t x).toNat = 16 * t.val + (x 0).val := by
  have h := base_toNat t (x 0)
  have e : (k0_pay5 lanes t x : BitVec 32) = Scalar.muli (Scf.iv 0#32 1#32 t) 16#32 + BitVec.ofNat 32 (x 0).val := by
    show IntOp.addi (Scalar.muli (Scf.iv 0#32 1#32 t) 16#32) (BitVec.ofNat 32 (0 * 16 + (x 0).val)) = _
    rw [Nat.zero_mul, Nat.zero_add]; rfl
  rw [e, h]

/-- The row a lane gathers from: the delay less one, zero for a delay of zero. -/
theorem row_toNat (d : Vec F S16 .i32) (x : S16.Idx) (h : (d x : BitVec 32).toNat < 32) :
    (k0_pay1 (F := F) d x).toNat = (d x : BitVec 32).toNat - 1 := by
  show (IntOp.maxsi ((d x : BitVec 32) - 1#32) 0#32).toNat = _
  generalize (d x : BitVec 32) = w at h ⊢
  have : ∀ n : Fin 32, (IntOp.maxsi (BitVec.ofNat 32 n.val - 1#32) 0#32).toNat = n.val - 1 := by decide
  have hw : w = BitVec.ofNat 32 (⟨w.toNat, h⟩ : Fin 32).val := by simp
  conv_lhs => rw [hw]
  exact this ⟨w.toNat, h⟩

/-- With the delays in range, every index of a trip's gather is inside the slab. -/
theorem chk_of_range (t : Fin k0_t1_loop.trips) (d : Vec F S16 .i32) (h : ∀ x, (d x : BitVec 32).toNat < 32) :
    k0_chk1 (k0_pay1 (F := F) d) (k0_pay5 lanes t) := by
  have ht : t.val < 64 := lt_of_lt_of_eq t.isLt (by decide)
  intro a x
  match a with
  | ⟨0, _⟩ =>
    show (k0_pay1 (F := F) d x).toNat < 32
    rw [row_toNat d x (h x)]; have := h x; omega
  | ⟨1, _⟩ =>
    show (k0_pay5 lanes t x).toNat < 1024
    rw [col_toNat]; have : (x 0).val < 16 := (x 0).isLt; omega

/-- What a trip stores, lane by lane: the chunk's output at the lane's position. -/
theorem stored_eq (t : Fin k0_t1_loop.trips) (D : S1024.Idx → Elt F .i32) (A : S1024.Idx → Elt F .f32) (H : S32x1024.Idx → Elt F .f32)
    (hD : ∀ x, (D x : BitVec 32).toNat < 32) (p : S16.Idx → S1024.Idx) (hp : ∀ x, (p x 0).val = 16 * t.val + (x 0).val)
    (hc : ∀ a x, ((![k0_pay1 (F := F) (fun x => D (p x)), k0_pay5 lanes t] : Fin 2 → IVec S16 32) a x).toNat < S32x1024.size a) (x : S16.Idx) :
    k0_pay3 (F := F) (fun x => D (p x)) (fun x => A (p x)) (loadIdx H ![k0_pay1 (F := F) (fun x => D (p x)), k0_pay5 lanes t] hc) x
      = outBlk D A H (p x) := by
  show Scalar.select (IntOp.cmpi .eq (D (p x)) 0#32) (A (p x)) (H (idxAt _ hc x)) = _
  have hix : idxAt ![k0_pay1 (F := F) (fun x => D (p x)), k0_pay5 lanes t] hc x = slabIx (D (p x)) (p x 0) := by
    funext a
    match a with
    | ⟨0, _⟩ =>
      apply Fin.ext
      show (k0_pay1 (F := F) (fun x => D (p x)) x).toNat = ((D (p x) : BitVec 32).toNat - 1) % 32
      rw [row_toNat (fun x => D (p x)) x (hD _)]; have := hD (p x); omega
    | ⟨1, _⟩ =>
      apply Fin.ext
      show (k0_pay5 lanes t x).toNat = (p x 0).val
      rw [col_toNat, hp]
  rw [hix]
  unfold outBlk
  show Scalar.select (BitVec.ofBool ((D (p x) : BitVec 32) == 0#32)) _ _ = _
  by_cases h : (D (p x) : BitVec 32) = 0#32
  · rw [if_pos h, h]; rfl
  · rw [if_neg h, beq_eq_false_iff_ne.mpr h]; rfl

/-! ## The trip and the loop -/

section Loop

variable {d : Dev nD} {x : Fin τ.nSC} {y : Fin τ.nSub} (dM : Memref sig .scVector .vmem S1024 .i32) (aM oM : Memref sig .scVector .vmem S1024 .f32)
  (hM : Memref sig .scVector .vmem S32x1024 .f32) (D : S1024.Idx → Elt F .i32) (A : S1024.Idx → Elt F .f32) (H : S32x1024.Idx → Elt F .f32)

/-- Between trips: the three inputs of the chunk as they were copied in, the output block right below position `16 t`. -/
def loopInv (d : Dev nD) (x : Fin τ.nSC) (y : Fin τ.nSub) (t : ℕ) (_ : Unit) : sProp (MM F) :=
  iprop(owns (V d x y) dM fullShare D ∗ owns (V d x y) aM fullShare A ∗ owns (V d x y) hM fullShare H
    ∗ ∃ Y, ⌜∀ j : S1024.Idx, (j 0).val < 16 * t → Y j = outBlk D A H j⌝ ∗ owns (V d x y) oM fullShare Y)

/-- A trip takes the loop's invariant from `t` to `t + 1`. -/
theorem trip_owns (hD : ∀ j, (D j : BitVec 32).toNat < 32) (t : Fin k0_t1_loop.trips) (u : Unit) :
    loopInv dM aM oM hM D A H d x y t.val u
      ⊢ wpT (V d x y) (trip dM aM oM hM lanes t u) (loopInv dM aM oM hM D A H d x y (t.val + 1)) := by
  have ht : t.val < 64 := lt_of_lt_of_eq t.isLt (by decide)
  have hoff : k0_off3 t 0 = 16 * t.val := by rw [k0_off3_eq]; rfl
  have hoff4 : k0_off4 t 0 = 16 * t.val := by rw [k0_off4_eq]; rfl
  unfold trip
  conv_lhs => unfold loopInv
  iintro ⟨Hd, Ha, Hh, %Y, %hY, Ho⟩
  iapply (load_owns (c := V d x y) dM) $$ Hd; iintro Hd
  iapply (load_owns (c := V d x y) aM) $$ Ha; iintro Ha
  have hc := chk_of_range (F := F) t (fun z => D ((Rect.unit (s := S1024) (k0_off3 t) S16.size (k0_off3_inb t)).toLoadRect.idx z)) fun z => hD _
  iapply (assume_step (c := V d x y) hc)
  iapply (gather_owns (c := V d x y) hM) $$ Hh; iintro Hh
  iapply (load_owns (c := V d x y) oM) $$ Ho; iintro Ho
  iapply (store_owns (c := V d x y) oM (fun _ => rfl)) $$ Ho; iintro Ho
  iapply (pure_step (c := V d x y))
  unfold loopInv
  isplitl [Hd]; · iexact Hd
  isplitl [Ha]; · iexact Ha
  isplitl [Hh]; · iexact Hh
  iexists _
  isplitr
  rotate_left
  · iexact Ho
  ipureintro
  intro j hj
  by_cases hm : j ∈ (Rect.unit (s := S1024) (k0_off4 t) S16.size (k0_off4_inb t)).set
  · obtain ⟨z, rfl⟩ := (Rect.unit (s := S1024) (k0_off4 t) S16.size (k0_off4_inb t)).exists_idx_of_mem hm
    refine (Rect.overlay_emb _ _ _ z).trans ?_
    refine stored_eq t D A H hD (fun z => (Rect.unit (s := S1024) (k0_off4 t) S16.size (k0_off4_inb t)).emb z) (fun z => ?_) _ z
    show k0_off4 t 0 + 1 * (z 0).val = _
    rw [hoff4]; omega
  · rw [Rect.overlay_of_not_mem _ _ _ hm]
    apply hY
    by_contra hlt
    refine hm (Rect.mem_set_unit.mpr fun a => ?_)
    obtain rfl : a = 0 := Subsingleton.elim _ _
    rw [hoff4]
    show 16 * t.val ≤ (j 0).val ∧ (j 0).val < 16 * t.val + 16
    omega

/-- A chunk's loop: from the three inputs and the output block at whatever it holds, the output block at the
    chunk's output. Stated for the loop at the head of a program. -/
theorem loop_owns {α : Type} {Q : α → sProp (MM F)} {k : Unit → Prog (TpuEff nD τ sig (Elt F) Λ₀ (.scVector x y)) α}
    (hD : ∀ j, (D j : BitVec 32).toNat < 32) :
    iprop(owns (V d x y) dM fullShare D ∗ owns (V d x y) aM fullShare A ∗ owns (V d x y) hM fullShare H ∗ (∃ Y, owns (V d x y) oM fullShare Y))
      ⊢ iprop((iprop(owns (V d x y) dM fullShare D ∗ owns (V d x y) aM fullShare A ∗ owns (V d x y) hM fullShare H
            ∗ owns (V d x y) oM fullShare (outBlk D A H)) -∗ wpT (V d x y) (k ⟨⟩) Q)
          -∗ wpT (V d x y) (Scf.Loop.for k0_t1_loop k0_t1_ok ⟨⟩ (trip dM aM oM hM lanes) >>= k) Q) := by
  iintro ⟨Hd, Ha, Hh, %Y, Ho⟩ Hk
  iapply (Scf.wp_for_bind frame (wpE (defs₀ (F := F)) 𝒱₀ (V d x y) none) Set.univ k0_t1_loop.lb k0_t1_loop.ub k0_t1_loop.st k0_t1_ok ⟨⟩
    (trip dM aM oM hM lanes) (loopInv dM aM oM hM D A H d x y) (fun t u => trip_owns dM aM oM hM D A H hD t u)) $$ [Hd Ha Hh Ho]
  · unfold loopInv
    isplitl [Hd]; · iexact Hd
    isplitl [Ha]; · iexact Ha
    isplitl [Hh]; · iexact Hh
    iexists Y
    isplitr
    · ipureintro; intro j hj; exact absurd hj (Nat.not_lt_zero _)
    · iexact Ho
  iintro %acc HI
  ihave HI' := (show loopInv dM aM oM hM D A H d x y k0_t1_loop.trips acc ⊢ iprop(owns (V d x y) dM fullShare D ∗ owns (V d x y) aM fullShare A
    ∗ owns (V d x y) hM fullShare H ∗ ∃ Y, ⌜∀ j : S1024.Idx, (j 0).val < 16 * k0_t1_loop.trips → Y j = outBlk D A H j⌝ ∗ owns (V d x y) oM fullShare Y)
      from .rfl) $$ HI
  icases HI' with ⟨Hd, Ha, Hh, %Y', %hY', Ho⟩
  obtain rfl : Y' = outBlk D A H := funext fun j => hY' j (lt_of_lt_of_eq (j 0).isLt (by decide))
  iapply Hk
  isplitl [Hd]; · iexact Hd
  isplitl [Ha]; · iexact Ha
  isplitl [Hh]; · iexact Hh
  iexact Ho

end Loop

end Cert.Proof.Hist
-- ==== Proof.Chunk.lean ====
/-
  The vector subcore's kernel, chunk by chunk. Each of the eight chunks goes through the same five
  steps on one of two sets of buffers: fetch (three copies started), await (their waits), the loop, put
  (the copy of the output started) and landed (its wait). Each step is stated once, over any buffers and
  any chunk; the kernel is these steps in the order it takes them.
-/
module

public import proofs.«01_k».proof.Proof.Trip

@[expose] public section

noncomputable section

namespace Cert.Proof.Hist

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Transfers (Batch MayWaits)

variable {F : FTy → Type} [FloatOps F]

/-! ## The buffers and the windows -/

/-- One set of a vector subcore's buffers: a chunk's history slab, current values, delays and output, and the
    semaphores of the fetch's two small copies, of the slab's copy and of the output's. -/
structure Half where
  slab : Memref sig .scVector .vmem S32x1024 .f32
  hslab : slab.IsWhole
  a : Memref sig .scVector .vmem S1024 .f32
  ha : a.IsWhole
  d : Memref sig .scVector .vmem S1024 .i32
  hd : d.IsWhole
  o : Memref sig .scVector .vmem S1024 .f32
  ho : o.IsWhole
  isem : DmaSem sig
  hsem : DmaSem sig
  osem : DmaSem sig

/-- The arrays the kernel copies from and to. -/
structure Arrays where
  ap : Memref sig .scVector .hbm S1000000 .f32
  hist : Memref sig .scVector .hbm S32x1000000 .f32
  delay : Memref sig .scVector .hbm S1000000 .i32
  out : Memref sig .scVector .hbm S1000000 .f32

variable (i : grid0.Coords) (G : Arrays) (B : Half)

/-- Chunk `k`'s columns of an array of one row. -/
abbrev colRect (k : Fin 8) : Rect S1000000 :=
  Rect.unit (s := S1000000) (k0_off1 i (BitVec.ofNat 32 (32 * k.val))) S1024.size (k0_off1_inb i k)
/-- Chunk `k`'s columns of the history. -/
abbrev slabRect (k : Fin 8) : Rect S32x1000000 :=
  Rect.unit (s := S32x1000000) (k0_off2 i (BitVec.ofNat 32 (32 * k.val))) S32x1024.size (k0_off2_inb i k)

/-- Chunk `k`'s window of the current values, -/
abbrev aWin (k : Fin 8) : Memref sig .scVector .hbm S1024 .f32 := G.ap.slice (colRect i k) (fun _ => rfl)
/-- of the delays, -/
abbrev dWin (k : Fin 8) : Memref sig .scVector .hbm S1024 .i32 := G.delay.slice (colRect i k) (fun _ => rfl)
/-- of the output -/
abbrev oWin (k : Fin 8) : Memref sig .scVector .hbm S1024 .f32 := G.out.slice (colRect i k) (fun _ => rfl)
/-- and of the history. -/
abbrev hWin (k : Fin 8) : Memref sig .scVector .hbm S32x1024 .f32 := G.hist.slice (slabRect i k) (fun _ => rfl)

/-! ## The five steps -/

section Prog

variable {x : Fin τ.nSC} {y : Fin τ.nSub}

/-- A vector subcore's programs. -/
abbrev VProg (F : FTy → Type) (x : Fin τ.nSC) (y : Fin τ.nSub) (α : Type) : Type 1 := Prog (TpuEff nD τ sig (Elt F) Λ₀ (.scVector x y)) α

/-- Start chunk `k`'s delays into the buffer, -/
def fetchD (k : Fin 8) : VProg F x y PUnit :=
  Prog.lift (.enqueueDma (dWin i G k) (.here B.d) (.dma B.isem) (View.wordExact_bits rfl) B.hd.wordExact ⟨Or.inl rfl, trivial⟩)
/-- its current values -/
def fetchA (k : Fin 8) : VProg F x y PUnit :=
  Prog.lift (.enqueueDma (aWin i G k) (.here B.a) (.dma B.isem) (View.wordExact_bits rfl) B.ha.wordExact ⟨Or.inl rfl, trivial⟩)
/-- and its history slab. -/
def fetchH (k : Fin 8) : VProg F x y PUnit :=
  Prog.lift (.enqueueDma (hWin i G k) (.here B.slab) (.dma B.hsem) (View.wordExact_bits rfl) B.hslab.wordExact ⟨Or.inl rfl, trivial⟩)

/-- Start the three copies of chunk `k`. -/
def fetch (k : Fin 8) : VProg F x y PUnit := do
  fetchD i G B k
  fetchA i G B k
  fetchH i G B k

/-- Wait for them. -/
def await (k : Fin 8) : VProg F x y PUnit := do
  Prog.lift (.waitDma2 B.isem (dWin i G k) B.d (View.wordExact_bits rfl) B.hd.wordExact)
  Prog.lift (.waitDma2 B.isem (aWin i G k) B.a (View.wordExact_bits rfl) B.ha.wordExact)
  Prog.lift (.waitDma2 B.hsem (hWin i G k) B.slab (View.wordExact_bits rfl) B.hslab.wordExact)

/-- Compute the chunk's output. -/
def compute : VProg F x y Unit :=
  Scf.Loop.for k0_t1_loop k0_t1_ok ⟨⟩ (trip B.d B.a B.o B.slab lanes)

/-- Start the copy of chunk `k`'s output. -/
def put (k : Fin 8) : VProg F x y PUnit :=
  Prog.lift (.enqueueDma B.o (.here (oWin i G k)) (.dma B.osem) B.ho.wordExact (View.wordExact_bits rfl) ⟨Or.inl rfl, trivial⟩)

/-- Wait for it. -/
def landed (k : Fin 8) : VProg F x y PUnit :=
  Prog.lift (.waitDma2 B.osem B.o (oWin i G k) B.ho.wordExact (View.wordExact_bits rfl))

/-- The kernel: chunks alternate between the two sets of buffers, chunk `k + 2` fetched once chunk `k` is done. -/
def tile (B' : Half) : VProg F x y PUnit := do
  fetch i G B 0
  fetch i G B' 1
  await i G B 0
  compute B
  put i G B 0
  fetch i G B 2
  await i G B' 1
  compute B'
  put i G B' 1
  fetch i G B' 3
  await i G B 2
  landed i G B 0
  compute B
  put i G B 2
  fetch i G B 4
  await i G B' 3
  landed i G B' 1
  compute B'
  put i G B' 3
  fetch i G B' 5
  await i G B 4
  landed i G B 2
  compute B
  put i G B 4
  fetch i G B 6
  await i G B' 5
  landed i G B' 3
  compute B'
  put i G B' 5
  fetch i G B' 7
  await i G B 6
  landed i G B 4
  compute B
  put i G B 6
  await i G B' 7
  landed i G B' 5
  compute B'
  put i G B' 7
  landed i G B 6
  landed i G B' 7

end Prog

set_option maxRecDepth 65536 in
/-- The printed kernel is that program, over any memrefs and semaphores. -/
theorem body_eq_tile (arg2 : Memref sig .scVector .hbm S1000000 .f32) (harg2 : arg2.IsWhole) (arg3 : Memref sig .scVector .hbm S32x1000000 .f32) (harg3 : arg3.IsWhole) (arg4 : Memref sig .scVector .hbm S1000000 .i32) (harg4 : arg4.IsWhole) (arg5 : Memref sig .scVector .hbm S1000000 .f32) (harg5 : arg5.IsWhole) (arg6 : Memref sig .scVector .vmem S32x1024 .f32) (harg6 : arg6.IsWhole) (arg7 : Memref sig .scVector .vmem S1024 .f32) (harg7 : arg7.IsWhole) (arg8 : Memref sig .scVector .vmem S1024 .i32) (harg8 : arg8.IsWhole) (arg9 : Memref sig .scVector .vmem S1024 .f32) (harg9 : arg9.IsWhole) (arg10 : Memref sig .scVector .vmem S32x1024 .f32) (harg10 : arg10.IsWhole) (arg11 : Memref sig .scVector .vmem S1024 .f32) (harg11 : arg11.IsWhole) (arg12 : Memref sig .scVector .vmem S1024 .i32) (harg12 : arg12.IsWhole) (arg13 : Memref sig .scVector .vmem S1024 .f32) (harg13 : arg13.IsWhole) (arg14 : DmaSems sig S_) (arg15 : DmaSems sig S_) (arg16 : DmaSems sig S_) (arg17 : DmaSems sig S_) (arg18 : DmaSems sig S_) (arg19 : DmaSems sig S_) :
    cc0__sc_body (F := F) i arg2 harg2 arg3 harg3 arg4 harg4 arg5 harg5 arg6 harg6 arg7 harg7 arg8 harg8 arg9 harg9 arg10 harg10 arg11 harg11 arg12 harg12 arg13 harg13 arg14 arg15 arg16 arg17 arg18 arg19
      = tile i ⟨arg2, arg3, arg4, arg5⟩ ⟨arg6, harg6, arg7, harg7, arg8, harg8, arg9, harg9, arg14.sem, arg16.sem, arg18.sem⟩
          ⟨arg10, harg10, arg11, harg11, arg12, harg12, arg13, harg13, arg15.sem, arg17.sem, arg19.sem⟩ := by
  rw [cc0__sc_body_eq_skeleton]
  unfold cc0__sc_body_skel
  rw [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel tile fetch await
  simp only [bind_assoc, pure_bind]
  rfl

end Cert.Proof.Hist
-- ==== Proof.Steps.lean ====
/-
  The five steps of a chunk, run: what each takes of the chunk's windows and of the buffers, and what it
  gives back. `stage` puts them together: a chunk whose copies are in flight, computed and put back, the
  next chunk of the same buffers fetched.
-/
module

public import proofs.«01_k».proof.Proof.Chunk

@[expose] public section

noncomputable section

namespace Cert.Proof.Hist

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Transfers (Batch MayWaits batch_alloc')

variable {F : FTy → Type} [FloatOps F]

variable (dev : Dev nD) {x : Fin τ.nSC} {y : Fin τ.nSub} (i : grid0.Coords) (G : Arrays) (B : Half)

/-! ## What is held -/

/-- The values of a chunk's three inputs. -/
structure Vals (F : FTy → Type) where
  D : S1024.Idx → Elt F .i32
  A : S1024.Idx → Elt F .f32
  H : S32x1024.Idx → Elt F .f32

/-- The chunk's output from them. -/
def Vals.out (v : Vals F) : S1024.Idx → Elt F .f32 := outBlk v.D v.A v.H

variable (x y)

/-- Chunk `k`'s windows of the three inputs, at its values. -/
def inWin (k : Fin 8) (v : Vals F) : sProp (MM F) :=
  iprop(owns (V dev x y) (dWin i G k) fullShare v.D ∗ owns (V dev x y) (aWin i G k) fullShare v.A ∗ owns (V dev x y) (hWin i G k) fullShare v.H)

/-- Chunk `k`'s window of the output, at `Y`. -/
def outWin (k : Fin 8) (Y : S1024.Idx → Elt F .f32) : sProp (MM F) := owns (V dev x y) (oWin i G k) fullShare Y

/-- The input buffers and their semaphores at rest. -/
def idle : sProp (MM F) :=
  iprop((∃ X, owns (V dev x y) B.d fullShare X) ∗ (∃ X, owns (V dev x y) B.a fullShare X) ∗ (∃ X, owns (V dev x y) B.slab fullShare X)
    ∗ semVal (V dev x y, .dma B.isem) 0 ∗ semVal (V dev x y, .dma B.hsem) 0)

/-- The output buffer and its semaphore at rest. -/
def idleO : sProp (MM F) := iprop((∃ X, owns (V dev x y) B.o fullShare X) ∗ semVal (V dev x y, .dma B.osem) 0)

/-- What the two small copies of a fetch hand back. -/
def smallLanded (k : Fin 8) (v : Vals F) : Fin 2 → sProp (MM F) :=
  ![Landed (V dev x y) (dWin i G k) B.d v.D, Landed (V dev x y) (aWin i G k) B.a v.A]

instance smallLanded_storable (k : Fin 8) (v : Vals F) (t : Fin 2) : Storable (upEmb : UEmb _ (MM F)) (smallLanded dev x y i G B k v t) := by
  unfold smallLanded
  match t with
  | 0 => exact (inferInstance : Storable (upEmb : UEmb _ (MM F)) (Landed (V dev x y) (dWin i G k) B.d v.D))
  | 1 => exact (inferInstance : Storable (upEmb : UEmb _ (MM F)) (Landed (V dev x y) (aWin i G k) B.a v.A))

/-- Chunk `k`'s fetch in flight. -/
def inFlight (k : Fin 8) (v : Vals F) : sProp (MM F) :=
  iprop(Batch EC (V dev x y) (.dma B.isem) none B.d.view.dmaCredit (smallLanded dev x y i G B k v) 2 0
    ∗ Batch EC (V dev x y) (.dma B.hsem) none B.slab.view.dmaCredit (fun _ : Fin 1 => Landed (V dev x y) (hWin i G k) B.slab v.H) 1 0)

/-- Chunk `k`'s inputs in the buffers. -/
def loaded (v : Vals F) : sProp (MM F) :=
  iprop(owns (V dev x y) B.d fullShare v.D ∗ owns (V dev x y) B.a fullShare v.A ∗ owns (V dev x y) B.slab fullShare v.H
    ∗ semVal (V dev x y, .dma B.isem) 0 ∗ semVal (V dev x y, .dma B.hsem) 0)

/-- Chunk `k`'s output on its way. -/
def putFlight (k : Fin 8) (Y : S1024.Idx → Elt F .f32) : sProp (MM F) :=
  Batch EC (V dev x y) (.dma B.osem) none (oWin i G k).view.dmaCredit (fun _ : Fin 1 => Landed (V dev x y) B.o (oWin i G k) Y) 1 0

/-- What the thread owes the launch, every wait recorded beyond `W` being one of its own. -/
def owing (O : CellTallies nD τ sig (HIx 1)) (W : Waits sig (HIx 1)) : sProp (MM F) :=
  iprop(∃ W', ⌜∀ p ∈ W', p ∈ W ∨ p.2 = none⌝ ∗ owes (V dev x y) O W')

omit [FloatOps F] in
theorem owing_insert (O : CellTallies nD τ sig (HIx 1)) (W W' : Waits sig (HIx 1)) (hW : ∀ p ∈ W', p ∈ W ∨ p.2 = none) (sm : SemLoc sig) :
    owes (V dev x y) O (insert (sm, none) W') ⊢ (owing dev x y O W : sProp (MM F)) := by
  unfold owing
  iintro H
  iexists _
  isplitr
  rotate_left
  · iexact H
  ipureintro
  intro p hp
  rcases Finset.mem_insert.mp hp with h | h
  · right; rw [h]
  · exact hW p h

variable {x y}
variable {α : Type} {Q : α → sProp (MM F)} {kk : PUnit → VProg F x y α}
  {O : CellTallies nD τ sig (HIx 1)} {W : Waits sig (HIx 1)}

/-! ## Fetch -/

theorem fetch_step (k : Fin 8) (v : Vals F) (hc : B.a.view.dmaCredit = B.d.view.dmaCredit) :
    iprop(idle dev x y B ∗ inWin dev x y i G k v)
      ⊢ iprop((inFlight dev x y i G B k v -∗ wpT (V dev x y) (kk ⟨⟩) Q) -∗ wpT (V dev x y) (fetch i G B k >>= kk) Q) := by
  conv_lhs => unfold idle inWin
  unfold fetch fetchD fetchA fetchH
  simp only [bind_assoc]
  iintro ⟨⟨⟨%X₁, Hd⟩, ⟨%X₂, Ha⟩, ⟨%X₃, Hs⟩, Hi, Hh⟩, Hdw, Haw, Hhw⟩ Hk
  imod (batch_alloc' EC (V dev x y) (sm := .dma B.isem) none B.d.view.dmaCredit (smallLanded dev x y i G B k v) (E := Set.univ)) $$ Hi with HBi
  imod (batch_alloc' EC (V dev x y) (sm := .dma B.hsem) none B.slab.view.dmaCredit (fun _ : Fin 1 => Landed (V dev x y) (hWin i G k) B.slab v.H) (E := Set.univ)) $$ Hh with HBh
  iapply (issue_owns (c := V dev x y) (dWin i G k) B.d (X := v.D) (Y := X₁) (D := smallLanded dev x y i G B k v) 0 rfl (by decide) rfl) $$ [Hdw Hd HBi]
  · isplitl [Hdw]; · iexact Hdw
    isplitl [Hd]; · iexact Hd
    iexact HBi
  iintro HBi
  iapply (issue_owns (c := V dev x y) (aWin i G k) B.a (X := v.A) (Y := X₂) (D := smallLanded dev x y i G B k v) (sm := .dma B.isem) (N := B.d.view.dmaCredit) 1 hc (by decide) rfl) $$ [Haw Ha HBi]
  · isplitl [Haw]; · iexact Haw
    isplitl [Ha]; · iexact Ha
    iexact HBi
  iintro HBi
  iapply (issue_owns (c := V dev x y) (hWin i G k) B.slab (X := v.H) (Y := X₃) (D := fun _ : Fin 1 => Landed (V dev x y) (hWin i G k) B.slab v.H) 0 rfl (by decide) rfl) $$ [Hhw Hs HBh]
  · isplitl [Hhw]; · iexact Hhw
    isplitl [Hs]; · iexact Hs
    iexact HBh
  iintro HBh
  iapply Hk
  unfold inFlight
  isplitl [HBi]; · iexact HBi
  iexact HBh

/-! ## Await -/

theorem await_step (k : Fin 8) (v : Vals F) (hc : B.a.view.dmaCredit = B.d.view.dmaCredit) :
    iprop(MayWaits (V dev x y) (none : HIx 1) O ∗ inFlight dev x y i G B k v ∗ owing dev x y O W)
      ⊢ iprop((iprop(loaded dev x y B v ∗ inWin dev x y i G k v ∗ owing dev x y O W) -∗ wpT (V dev x y) (kk ⟨⟩) Q)
          -∗ wpT (V dev x y) (await i G B k >>= kk) Q) := by
  conv_lhs => unfold inFlight
  unfold await
  simp only [bind_assoc]
  iintro ⟨#Hmw, ⟨HBi, HBh⟩, HO⟩ Hk
  ihave HO' := (show owing dev x y O W ⊢ (iprop(∃ W', ⌜∀ p ∈ W', p ∈ W ∨ p.2 = none⌝ ∗ owes (V dev x y) O W') : sProp (MM F)) from .rfl) $$ HO
  icases HO' with ⟨%W₁, %hW₁, HO⟩
  ihave Hm₁ := (MayWaits.elim (.dma B.isem)) $$ Hmw
  ihave Hm₂ := (MayWaits.elim (.dma B.isem)) $$ Hmw
  ihave Hm₃ := (MayWaits.elim (.dma B.hsem)) $$ Hmw
  iapply (wait_first (c := V dev x y) (dWin i G k) B.d (D := smallLanded dev x y i G B k v) rfl (B.d.view.dmaCredit_pos (by decide))) $$ [HBi HO Hm₁]
  · isplitl [HBi]; · iexact HBi
    isplitl [HO]; · iexact HO
    iexact Hm₁
  iintro ⟨HBi, HO⟩
  iapply (wait_last (c := V dev x y) (aWin i G k) B.a (u := B.d.view.dmaCredit) (D := smallLanded dev x y i G B k v) hc (B.d.view.dmaCredit_pos (by decide)) (by omega)) $$ [HBi HO Hm₂]
  · isplitl [HBi]; · iexact HBi
    isplitl [HO]; · iexact HO
    iexact Hm₂
  iintro ⟨HD, Hi, HO⟩
  iapply (wait_last (c := V dev x y) (hWin i G k) B.slab (u := 0) (D := fun _ : Fin 1 => Landed (V dev x y) (hWin i G k) B.slab v.H) rfl (B.slab.view.dmaCredit_pos (by decide)) (by omega)) $$ [HBh HO Hm₃]
  · isplitl [HBh]; · iexact HBh
    isplitl [HO]; · iexact HO
    iexact Hm₃
  iintro ⟨HDh, Hh, HO⟩
  ihave HD' := (Entails.of_eq (show bigSep Finset.univ (smallLanded dev x y i G B k v)
      = iprop(Landed (V dev x y) (dWin i G k) B.d v.D ∗ Landed (V dev x y) (aWin i G k) B.a v.A) by
        rw [Transfers.bigSep_pending_zero, Transfers.bigSep_pending_step _ 0 (by decide), Transfers.bigSep_pending_last _ 1 (by decide) rfl]; rfl)) $$ HD
  icases HD' with ⟨⟨Hd, Hdw⟩, Ha, Haw⟩
  ihave HDh' := (Entails.of_eq (show bigSep Finset.univ (fun _ : Fin 1 => Landed (V dev x y) (hWin i G k) B.slab v.H)
      = Landed (V dev x y) (hWin i G k) B.slab v.H by
        rw [Transfers.bigSep_pending_zero, Transfers.bigSep_pending_last _ 0 (by decide) rfl])) $$ HDh
  icases HDh' with ⟨Hs, Hsw⟩
  iapply Hk
  unfold loaded inWin
  isplitl [Hd Ha Hs Hi Hh]
  · isplitl [Hd]; · iexact Hd
    isplitl [Ha]; · iexact Ha
    isplitl [Hs]; · iexact Hs
    isplitl [Hi]; · iexact Hi
    iexact Hh
  isplitl [Hdw Haw Hsw]
  · isplitl [Hdw]; · iexact Hdw
    isplitl [Haw]; · iexact Haw
    iexact Hsw
  iapply (owing_insert dev x y O W _ (fun p hp => ?_) (.dma B.hsem)) $$ HO
  rcases Finset.mem_insert.mp hp with h | hp
  · right; rw [h]
  rcases Finset.mem_insert.mp hp with h | hp
  · right; rw [h]
  exact hW₁ p hp

/-! ## The loop -/

theorem compute_step (v : Vals F) (hD : ∀ j, (v.D j : BitVec 32).toNat < 32) :
    iprop(loaded dev x y B v ∗ ∃ X, owns (V dev x y) B.o fullShare X)
      ⊢ iprop((iprop(idle dev x y B ∗ owns (V dev x y) B.o fullShare v.out) -∗ wpT (V dev x y) (kk ⟨⟩) Q)
          -∗ wpT (V dev x y) (compute B >>= kk) Q) := by
  conv_lhs => unfold loaded
  unfold compute
  iintro ⟨⟨Hd, Ha, Hs, Hi, Hh⟩, Ho⟩ Hk
  iapply (loop_owns B.d B.a B.o B.slab v.D v.A v.H hD) $$ [Hd Ha Hs Ho]
  · isplitl [Hd]; · iexact Hd
    isplitl [Ha]; · iexact Ha
    isplitl [Hs]; · iexact Hs
    iexact Ho
  iintro ⟨Hd, Ha, Hs, Ho⟩
  iapply Hk
  unfold idle
  isplitl [Hd Ha Hs Hi Hh]
  · isplitl [Hd]; · iexists _; iexact Hd
    isplitl [Ha]; · iexists _; iexact Ha
    isplitl [Hs]; · iexists _; iexact Hs
    isplitl [Hi]; · iexact Hi
    iexact Hh
  iexact Ho

/-! ## Put and landed -/

theorem put_step (k : Fin 8) (Y : S1024.Idx → Elt F .f32) :
    iprop(owns (V dev x y) B.o fullShare Y ∗ semVal (V dev x y, .dma B.osem) 0 ∗ ∃ Z, outWin dev x y i G k Z)
      ⊢ iprop((putFlight dev x y i G B k Y -∗ wpT (V dev x y) (kk ⟨⟩) Q) -∗ wpT (V dev x y) (put i G B k >>= kk) Q) := by
  unfold put outWin
  iintro ⟨Ho, Hv, %Z, Hw⟩ Hk
  imod (batch_alloc' EC (V dev x y) (sm := .dma B.osem) none (oWin i G k).view.dmaCredit (fun _ : Fin 1 => Landed (V dev x y) B.o (oWin i G k) Y) (E := Set.univ)) $$ Hv with HB
  iapply (issue_owns (c := V dev x y) B.o (oWin i G k) (X := Y) (Y := Z) (D := fun _ : Fin 1 => Landed (V dev x y) B.o (oWin i G k) Y) 0 rfl (by decide) rfl) $$ [Ho Hw HB]
  · isplitl [Ho]; · iexact Ho
    isplitl [Hw]; · iexact Hw
    iexact HB
  iintro HB
  iapply Hk
  unfold putFlight
  iexact HB

theorem landed_step (k : Fin 8) (Y : S1024.Idx → Elt F .f32) :
    iprop(MayWaits (V dev x y) (none : HIx 1) O ∗ putFlight dev x y i G B k Y ∗ owing dev x y O W)
      ⊢ iprop((iprop(idleO dev x y B ∗ outWin dev x y i G k Y ∗ owing dev x y O W) -∗ wpT (V dev x y) (kk ⟨⟩) Q)
          -∗ wpT (V dev x y) (landed i G B k >>= kk) Q) := by
  conv_lhs => unfold putFlight
  unfold landed
  iintro ⟨#Hmw, HB, HO⟩ Hk
  ihave HO' := (show owing dev x y O W ⊢ (iprop(∃ W', ⌜∀ p ∈ W', p ∈ W ∨ p.2 = none⌝ ∗ owes (V dev x y) O W') : sProp (MM F)) from .rfl) $$ HO
  icases HO' with ⟨%W₁, %hW₁, HO⟩
  ihave Hm₁ := (MayWaits.elim (.dma B.osem)) $$ Hmw
  iapply (wait_last (c := V dev x y) B.o (oWin i G k) (u := 0) (D := fun _ : Fin 1 => Landed (V dev x y) B.o (oWin i G k) Y) rfl ((oWin i G k).view.dmaCredit_pos (by decide)) (by omega)) $$ [HB HO Hm₁]
  · isplitl [HB]; · iexact HB
    isplitl [HO]; · iexact HO
    iexact Hm₁
  iintro ⟨HD, Hv, HO⟩
  ihave HD' := (Entails.of_eq (show bigSep Finset.univ (fun _ : Fin 1 => Landed (V dev x y) B.o (oWin i G k) Y)
      = Landed (V dev x y) B.o (oWin i G k) Y by
        rw [Transfers.bigSep_pending_zero, Transfers.bigSep_pending_last _ 0 (by decide) rfl])) $$ HD
  icases HD' with ⟨Hw, Ho⟩
  iapply Hk
  unfold idleO outWin
  isplitl [Ho Hv]
  · isplitl [Ho]; · iexists _; iexact Ho
    iexact Hv
  isplitl [Hw]; · iexact Hw
  iapply (owing_insert dev x y O W _ hW₁ (.dma B.osem)) $$ HO

/-! ## A chunk after another -/

/-- A chunk computed and put back once its fetch and the last put of the buffers have been waited for. -/
theorem middle_step (k j : Fin 8) (v w : Vals F) (hc : B.a.view.dmaCredit = B.d.view.dmaCredit) (hD : ∀ t, (v.D t : BitVec 32).toNat < 32) :
    iprop(MayWaits (V dev x y) (none : HIx 1) O ∗ inFlight dev x y i G B k v ∗ putFlight dev x y i G B j w.out ∗ (∃ Z, outWin dev x y i G k Z) ∗ owing dev x y O W)
      ⊢ iprop((iprop(idle dev x y B ∗ putFlight dev x y i G B k v.out ∗ inWin dev x y i G k v ∗ outWin dev x y i G j w.out ∗ owing dev x y O W)
            -∗ wpT (V dev x y) (kk ⟨⟩) Q)
          -∗ wpT (V dev x y) (await i G B k >>= fun _ => landed i G B j >>= fun _ => compute B >>= fun _ => put i G B k >>= kk) Q) := by
  iintro ⟨#Hmw, HF, HP, Hw, HO⟩ Hk
  iapply (await_step (O := O) (W := W) dev i G B k v hc) $$ [HF HO]
  · isplitr; · iexact Hmw
    isplitl [HF]; · iexact HF
    iexact HO
  iintro ⟨HL, HI, HO⟩
  iapply (landed_step (O := O) (W := W) dev i G B j w.out) $$ [HP HO]
  · isplitr; · iexact Hmw
    isplitl [HP]; · iexact HP
    iexact HO
  iintro ⟨HIO, Hwj, HO⟩
  unfold idleO
  icases HIO with ⟨Ho, Hv⟩
  iapply (compute_step dev B v hD) $$ [HL Ho]
  · isplitl [HL]; · iexact HL
    iexact Ho
  iintro ⟨Hid, Ho⟩
  iapply (put_step dev i G B k v.out) $$ [Ho Hv Hw]
  · isplitl [Ho]; · iexact Ho
    isplitl [Hv]; · iexact Hv
    iexact Hw
  iintro HP
  iapply Hk
  isplitl [Hid]; · iexact Hid
  isplitl [HP]; · iexact HP
  isplitl [HI]; · iexact HI
  isplitl [Hwj]; · iexact Hwj
  iexact HO

/-- The first chunk of the buffers, no put before it. -/
theorem first_step (k : Fin 8) (v : Vals F) (hc : B.a.view.dmaCredit = B.d.view.dmaCredit) (hD : ∀ t, (v.D t : BitVec 32).toNat < 32) :
    iprop(MayWaits (V dev x y) (none : HIx 1) O ∗ inFlight dev x y i G B k v ∗ idleO dev x y B ∗ (∃ Z, outWin dev x y i G k Z) ∗ owing dev x y O W)
      ⊢ iprop((iprop(idle dev x y B ∗ putFlight dev x y i G B k v.out ∗ inWin dev x y i G k v ∗ owing dev x y O W)
            -∗ wpT (V dev x y) (kk ⟨⟩) Q)
          -∗ wpT (V dev x y) (await i G B k >>= fun _ => compute B >>= fun _ => put i G B k >>= kk) Q) := by
  iintro ⟨#Hmw, HF, HIO, Hw, HO⟩ Hk
  iapply (await_step (O := O) (W := W) dev i G B k v hc) $$ [HF HO]
  · isplitr; · iexact Hmw
    isplitl [HF]; · iexact HF
    iexact HO
  iintro ⟨HL, HI, HO⟩
  unfold idleO
  icases HIO with ⟨Ho, Hv⟩
  iapply (compute_step dev B v hD) $$ [HL Ho]
  · isplitl [HL]; · iexact HL
    iexact Ho
  iintro ⟨Hid, Ho⟩
  iapply (put_step dev i G B k v.out) $$ [Ho Hv Hw]
  · isplitl [Ho]; · iexact Ho
    isplitl [Hv]; · iexact Hv
    iexact Hw
  iintro HP
  iapply Hk
  isplitl [Hid]; · iexact Hid
  isplitl [HP]; · iexact HP
  isplitl [HI]; · iexact HI
  iexact HO

end Cert.Proof.Hist
-- ==== Proof.Tile.lean ====
/-
  The kernel on one vector subcore, run: the eight chunks of the subcore from its windows of the arrays, its
  two sets of buffers and six semaphores, and back, every window of the output at the chunk's output.
-/
module

public import proofs.«01_k».proof.Proof.Steps

@[expose] public section

noncomputable section

namespace Cert.Proof.Hist

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Transfers (MayWaits)

variable {F : FTy → Type} [FloatOps F]

omit [FloatOps F] in
/-- A separating conjunction over the eight chunks, written out. -/
theorem bigSep_chunks (f : Fin 8 → sProp (MM F)) :
    bigSep Finset.univ f = iprop(f 0 ∗ f 1 ∗ f 2 ∗ f 3 ∗ f 4 ∗ f 5 ∗ f 6 ∗ f 7) := by
  rw [show (Finset.univ : Finset (Fin 8)) = {0, 1, 2, 3, 4, 5, 6, 7} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

variable (dev : Dev nD) {x : Fin τ.nSC} {y : Fin τ.nSub} (i : grid0.Coords) (G : Arrays) (B B' : Half)
  {O : CellTallies nD τ sig (HIx 1)} {W : Waits sig (HIx 1)}

/-- The kernel's run. -/
theorem tile_run (v : Fin 8 → Vals F) (hc : B.a.view.dmaCredit = B.d.view.dmaCredit) (hc' : B'.a.view.dmaCredit = B'.d.view.dmaCredit)
    (hD : ∀ k t, ((v k).D t : BitVec 32).toNat < 32) :
    iprop(MayWaits (V dev x y) (none : HIx 1) O
        ∗ (bigSep Finset.univ fun k => inWin dev x y i G k (v k)) ∗ (bigSep Finset.univ fun k => iprop(∃ Z, outWin dev x y i G k Z))
        ∗ (idle dev x y B ∗ idleO dev x y B) ∗ (idle dev x y B' ∗ idleO dev x y B') ∗ owing dev x y O W)
      ⊢ wpT (V dev x y) (tile i G B B') fun _ =>
          iprop((bigSep Finset.univ fun k => inWin dev x y i G k (v k)) ∗ (bigSep Finset.univ fun k => outWin dev x y i G k (v k).out)
            ∗ (idle dev x y B ∗ idleO dev x y B) ∗ (idle dev x y B' ∗ idleO dev x y B') ∗ owing dev x y O W) := by
  rw [bigSep_chunks, bigSep_chunks, bigSep_chunks]
  unfold tile
  iintro ⟨#Hmw, ⟨I0, I1, I2, I3, I4, I5, I6, I7⟩, ⟨Z0, Z1, Z2, Z3, Z4, Z5, Z6, Z7⟩, ⟨R, RO⟩, ⟨R', RO'⟩, HO⟩
  iapply (fetch_step dev i G B 0 (v 0) hc) $$ [R I0]
  · isplitl [R]; · iexact R
    iexact I0
  iintro L0
  iapply (fetch_step dev i G B' 1 (v 1) hc') $$ [R' I1]
  · isplitl [R']; · iexact R'
    iexact I1
  iintro L1
  iapply (first_step (O := O) (W := W) dev i G B 0 (v 0) hc (hD 0)) $$ [L0 RO Z0 HO]
  · isplitr; · iexact Hmw
    isplitl [L0]; · iexact L0
    isplitl [RO]; · iexact RO
    isplitl [Z0]; · iexact Z0
    iexact HO
  iintro ⟨R, P0, I0, HO⟩
  iapply (fetch_step dev i G B 2 (v 2) hc) $$ [R I2]
  · isplitl [R]; · iexact R
    iexact I2
  iintro L2
  iapply (first_step (O := O) (W := W) dev i G B' 1 (v 1) hc' (hD 1)) $$ [L1 RO' Z1 HO]
  · isplitr; · iexact Hmw
    isplitl [L1]; · iexact L1
    isplitl [RO']; · iexact RO'
    isplitl [Z1]; · iexact Z1
    iexact HO
  iintro ⟨R', P1, I1, HO⟩
  iapply (fetch_step dev i G B' 3 (v 3) hc') $$ [R' I3]
  · isplitl [R']; · iexact R'
    iexact I3
  iintro L3
  iapply (middle_step (O := O) (W := W) dev i G B 2 0 (v 2) (v 0) hc (hD 2)) $$ [L2 P0 Z2 HO]
  · isplitr; · iexact Hmw
    isplitl [L2]; · iexact L2
    isplitl [P0]; · iexact P0
    isplitl [Z2]; · iexact Z2
    iexact HO
  iintro ⟨R, P2, I2, Z0, HO⟩
  iapply (fetch_step dev i G B 4 (v 4) hc) $$ [R I4]
  · isplitl [R]; · iexact R
    iexact I4
  iintro L4
  iapply (middle_step (O := O) (W := W) dev i G B' 3 1 (v 3) (v 1) hc' (hD 3)) $$ [L3 P1 Z3 HO]
  · isplitr; · iexact Hmw
    isplitl [L3]; · iexact L3
    isplitl [P1]; · iexact P1
    isplitl [Z3]; · iexact Z3
    iexact HO
  iintro ⟨R', P3, I3, Z1, HO⟩
  iapply (fetch_step dev i G B' 5 (v 5) hc') $$ [R' I5]
  · isplitl [R']; · iexact R'
    iexact I5
  iintro L5
  iapply (middle_step (O := O) (W := W) dev i G B 4 2 (v 4) (v 2) hc (hD 4)) $$ [L4 P2 Z4 HO]
  · isplitr; · iexact Hmw
    isplitl [L4]; · iexact L4
    isplitl [P2]; · iexact P2
    isplitl [Z4]; · iexact Z4
    iexact HO
  iintro ⟨R, P4, I4, Z2, HO⟩
  iapply (fetch_step dev i G B 6 (v 6) hc) $$ [R I6]
  · isplitl [R]; · iexact R
    iexact I6
  iintro L6
  iapply (middle_step (O := O) (W := W) dev i G B' 5 3 (v 5) (v 3) hc' (hD 5)) $$ [L5 P3 Z5 HO]
  · isplitr; · iexact Hmw
    isplitl [L5]; · iexact L5
    isplitl [P3]; · iexact P3
    isplitl [Z5]; · iexact Z5
    iexact HO
  iintro ⟨R', P5, I5, Z3, HO⟩
  iapply (fetch_step dev i G B' 7 (v 7) hc') $$ [R' I7]
  · isplitl [R']; · iexact R'
    iexact I7
  iintro L7
  iapply (middle_step (O := O) (W := W) dev i G B 6 4 (v 6) (v 4) hc (hD 6)) $$ [L6 P4 Z6 HO]
  · isplitr; · iexact Hmw
    isplitl [L6]; · iexact L6
    isplitl [P4]; · iexact P4
    isplitl [Z6]; · iexact Z6
    iexact HO
  iintro ⟨R, P6, I6, Z4, HO⟩
  iapply (middle_step (O := O) (W := W) dev i G B' 7 5 (v 7) (v 5) hc' (hD 7)) $$ [L7 P5 Z7 HO]
  · isplitr; · iexact Hmw
    isplitl [L7]; · iexact L7
    isplitl [P5]; · iexact P5
    isplitl [Z7]; · iexact Z7
    iexact HO
  iintro ⟨R', P7, I7, Z5, HO⟩
  iapply (landed_step (O := O) (W := W) dev i G B 6 (v 6).out) $$ [P6 HO]
  · isplitr; · iexact Hmw
    isplitl [P6]; · iexact P6
    iexact HO
  iintro ⟨RO, Z6, HO⟩
  rw [← bind_pure (landed i G B' 7)]
  iapply (landed_step (O := O) (W := W) dev i G B' 7 (v 7).out) $$ [P7 HO]
  · isplitr; · iexact Hmw
    isplitl [P7]; · iexact P7
    iexact HO
  iintro ⟨RO', Z7, HO⟩
  iapply pure_step
  isplitl [I0 I1 I2 I3 I4 I5 I6 I7]
  · isplitl [I0]; · iexact I0
    isplitl [I1]; · iexact I1
    isplitl [I2]; · iexact I2
    isplitl [I3]; · iexact I3
    isplitl [I4]; · iexact I4
    isplitl [I5]; · iexact I5
    isplitl [I6]; · iexact I6
    iexact I7
  isplitl [Z0 Z1 Z2 Z3 Z4 Z5 Z6 Z7]
  · isplitl [Z0]; · iexact Z0
    isplitl [Z1]; · iexact Z1
    isplitl [Z2]; · iexact Z2
    isplitl [Z3]; · iexact Z3
    isplitl [Z4]; · iexact Z4
    isplitl [Z5]; · iexact Z5
    isplitl [Z6]; · iexact Z6
    iexact Z7
  isplitl [R RO]
  · isplitl [R]; · iexact R
    iexact RO
  isplitl [R' RO']
  · isplitl [R']; · iexact R'
    iexact RO'
  iexact HO

end Cert.Proof.Hist
-- ==== Proof.Call.lean ====
/-
  The SparseCore call: the arrays' columns dealt to the 32 vector subcores, each subcore's task run on its
  own, and the whole output read back. A subcore's chunk holds columns `[o, o + 1024)` of each array; the
  256 chunks of the grid are the columns below 262144.
-/
module

public import proofs.«01_k».proof.Proof.Tile

@[expose] public section

noncomputable section

namespace Cert.Proof.Hist

open Cert.KernelIdeal Cert.KernelIdeal.Gen
open Idealize.ShloMosaic
open Idealize.ShloMosaic.SparseCore (S V)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Transfers (MayWaits)

variable {F : FTy → Type} [FloatOps F]

/-! ## The arrays and the launch memory -/

abbrev aLoc (d : Dev nD) : Loc nD τ sig := (SparseCore.T d : Thread nD τ).loc main_arg0
abbrev hLoc (d : Dev nD) : Loc nD τ sig := (SparseCore.T d : Thread nD τ).loc main_arg1
abbrev dLoc (d : Dev nD) : Loc nD τ sig := (SparseCore.T d : Thread nD τ).loc main_arg2
abbrev oLoc (d : Dev nD) : Loc nD τ sig := (SparseCore.T d : Thread nD τ).loc main_v0

-- the launch memory: what each array holds at the start
variable (m : (ℓ : Loc nD τ sig) → Buf (Elt F) ℓ)

/-- The current values at launch, -/
abbrev aAt (d : Dev nD) : S1000000.Idx → Elt F .f32 := m (aLoc d)
/-- the history -/
abbrev hAt (d : Dev nD) : S32x1000000.Idx → Elt F .f32 := m (hLoc d)
/-- and the delays. -/
abbrev dAt (d : Dev nD) : S1000000.Idx → BitVec 32 := m (dLoc d)

/-- Every delay is a row of the history. -/
def InRange : Prop := ∀ d n, (dAt m d n).toNat < 32

/-- The history's element `dl` steps back in column `n`: row `dl - 1`. -/
def backIx (dl : BitVec 32) (n : S1000000.Idx) : S32x1000000.Idx := fun
  | 0 => Fin.ofNat 32 (dl.toNat - 1)
  | 1 => n 0

/-- The value column `n` is delayed to: the current one at delay 0, else the history's. -/
def delayed (d : Dev nD) : S1000000.Idx → Elt F .f32 := fun n =>
  if dAt m d n = 0#32 then aAt m d n else hAt m d (backIx (dAt m d n) n)

/-- The kernel's arrays as the vector subcores address them. -/
abbrev G₀ : Arrays :=
  ⟨Memref.whole main_arg0_scv, Memref.whole main_arg1_scv, Memref.whole main_arg2_scv, Memref.whole main_v0_scv⟩

/-- The first set of buffers and semaphores, -/
abbrev H₀ : Half := ⟨Memref.whole cc0_scratch0, Memref.isWhole_whole _, Memref.whole cc0_scratch1, Memref.isWhole_whole _, Memref.whole cc0_scratch2, Memref.isWhole_whole _, Memref.whole cc0_scratch3, Memref.isWhole_whole _, cc0_scratch8.sem, cc0_scratch10.sem, cc0_scratch12.sem⟩
/-- and the second. -/
abbrev H₁ : Half := ⟨Memref.whole cc0_scratch4, Memref.isWhole_whole _, Memref.whole cc0_scratch5, Memref.isWhole_whole _, Memref.whole cc0_scratch6, Memref.isWhole_whole _, Memref.whole cc0_scratch7, Memref.isWhole_whole _, cc0_scratch9.sem, cc0_scratch11.sem, cc0_scratch13.sem⟩

/-- Chunk `k`'s inputs at launch. -/
def valsAt (d : Dev nD) (i : grid0.Coords) (k : Fin 8) : Vals F where
  D j := dAt m d ((colRect i k).emb j)
  A j := aAt m d ((colRect i k).emb j)
  H j := hAt m d ((slabRect i k).emb j)

/-! ## A chunk's windows are column sets of the arrays -/

theorem mem_colRect (i : grid0.Coords) (k : Fin 8) (n : S1000000.Idx) :
    n ∈ (colRect i k).set ↔ 2048 * (i 1).val + 1024 * (i 0).val + 32768 * k.val ≤ (n 0).val ∧ (n 0).val < 2048 * (i 1).val + 1024 * (i 0).val + 32768 * k.val + 1024 := by
  rw [Rect.mem_set_unit, k0_off1_eq]
  exact ⟨fun h => h 0, fun h a => by obtain rfl : a = 0 := Subsingleton.elim _ _; exact h⟩

theorem mem_slabRect (i : grid0.Coords) (k : Fin 8) (n : S32x1000000.Idx) :
    n ∈ (slabRect i k).set ↔ 2048 * (i 1).val + 1024 * (i 0).val + 32768 * k.val ≤ (n 1).val ∧ (n 1).val < 2048 * (i 1).val + 1024 * (i 0).val + 32768 * k.val + 1024 := by
  rw [Rect.mem_set_unit, k0_off2_eq]
  refine ⟨fun h => h 1, fun h a => ?_⟩
  match a with
  | 0 => exact ⟨Nat.zero_le _, (n 0).isLt⟩
  | 1 => exact h

/-- The chunk's output is the delayed values of its columns. -/
theorem out_valsAt (d : Dev nD) (i : grid0.Coords) (k : Fin 8) :
    (valsAt m d i k).out = fun j => delayed m d ((colRect i k).emb j) := by
  funext j
  unfold Vals.out outBlk delayed valsAt
  dsimp only
  split
  · rfl
  · refine congrArg (hAt m d) (funext fun a => Fin.ext ?_)
    match a with
    | 0 =>
      rw [Rect.emb_apply, show (slabRect i k).off 0 = 0 from congrFun (k0_off2_eq i k) 0]
      show 0 + 1 * _ = _
      rw [Nat.zero_add, Nat.one_mul]; rfl
    | 1 =>
      rw [Rect.emb_apply, show (slabRect i k).off 1 = 2048 * (i 1).val + 1024 * (i 0).val + 32768 * k.val from congrFun (k0_off2_eq i k) 1]
      show _ = ((colRect i k).emb j 0 : Nat)
      rw [Rect.emb_apply, show (colRect i k).off 0 = 2048 * (i 1).val + 1024 * (i 0).val + 32768 * k.val from congrFun (k0_off1_eq i k) 0]
      rfl

omit [FloatOps F] in
/-- A slice of a whole array, owned at what the array holds there, is the array's elements there. -/
theorem owns_window (c : Thread nD τ) (b : Ref sig c.2.kind) (r : Rect b.ty.shape) (hr : ∀ a, r.stride a = 1) (g : b.ty.Contents (Elt F)) :
    (owns c ((Memref.whole b).slice r hr) fullShare (fun j => g (r.emb j)) : sProp (MM F)) = (c.loc b) ↦[r.set]{fullShare} g := by
  have h := owns_slice_read (Val := Elt F) (U := UU) (Name := ℕ) (Lvl := ℕ) (Ix := HIx 1) c (Memref.whole b) fullShare r hr g
  refine Eq.trans (show _ = (_ : sProp (MM F)) from rfl) (h.trans ?_)
  exact congrArg (fun I => ((c.loc b) ↦[I]{fullShare} g : sProp (MM F)))
    (show ((Memref.whole b).view.slice r).set = r.set from (View.set_slice _ _).trans Finset.map_refl)

variable {x : Fin τ.nSC} {y : Fin τ.nSub}

omit [FloatOps F] in
theorem inWin_eq (d : Dev nD) (i : grid0.Coords) (k : Fin 8) :
    (inWin d x y i G₀ k (valsAt m d i k) : sProp (MM F))
      = iprop((dLoc d ↦[(colRect i k).set]{fullShare} m (dLoc d)) ∗ (aLoc d ↦[(colRect i k).set]{fullShare} m (aLoc d)) ∗ (hLoc d ↦[(slabRect i k).set]{fullShare} m (hLoc d))) := by
  unfold inWin
  refine congrArg₂ _ ?_ (congrArg₂ _ ?_ ?_)
  · exact owns_window (V d x y) main_arg2_scv (colRect i k) (fun _ => rfl) (m (dLoc d))
  · exact owns_window (V d x y) main_arg0_scv (colRect i k) (fun _ => rfl) (m (aLoc d))
  · exact owns_window (V d x y) main_arg1_scv (slabRect i k) (fun _ => rfl) (m (hLoc d))

omit [FloatOps F] in
theorem outWin_eq (d : Dev nD) (i : grid0.Coords) (k : Fin 8) (f : S1000000.Idx → Elt F .f32) :
    (outWin d x y i G₀ k (fun j => f ((colRect i k).emb j)) : sProp (MM F)) = oLoc d ↦[(colRect i k).set]{fullShare} f :=
  owns_window (V d x y) main_v0_scv (colRect i k) (fun _ => rfl) f

/-! ## The payloads -/

/-- What a vector subcore is handed and hands back: its chunks of the inputs at launch contents, of the output at `f`. -/
def share (d : Dev nD) (i : grid0.Coords) (f : S1000000.Idx → Elt F .f32) : sProp (MM F) :=
  bigSep Finset.univ fun k : Fin 8 =>
    iprop(((dLoc d ↦[(colRect i k).set]{fullShare} m (dLoc d)) ∗ (aLoc d ↦[(colRect i k).set]{fullShare} m (aLoc d)) ∗ (hLoc d ↦[(slabRect i k).set]{fullShare} m (hLoc d)))
      ∗ (oLoc d ↦[(colRect i k).set]{fullShare} f))

instance share_storable (d : Dev nD) (i : grid0.Coords) (f : S1000000.Idx → Elt F .f32) : Storable (upEmb : UEmb _ (MM F)) (share m d i f) := by
  unfold share; infer_instance

/-- The grid point of a SparseCore and a vector subcore. -/
def coordsV (c : Fin (grid0.bound 0)) (s : Fin (grid0.bound 1)) : grid0.Coords :=
  fun | 0 => c | 1 => s | ⟨_ + 2, h⟩ => absurd h (Nat.not_lt.2 (Nat.le_add_left _ _))

/-- The call's payloads: each subcore its share, the output at launch contents before and at the delayed values
    after, each SparseCore its subcores' shares. -/
def P : (K (F := F)).Pay (nD := nD) (Val := Elt F) (Name := ℕ) (U := UU) where
  st := fun q d c => match q with | 0 => bigSep Finset.univ fun s : Fin (grid0.bound 1) => share m d (coordsV c s) (m (oLoc d))
  dn := fun q d c => match q with | 0 => bigSep Finset.univ fun s : Fin (grid0.bound 1) => share m d (coordsV c s) (delayed m d)
  go := fun q d c s => match q with | 0 => share m d (coordsV c s) (m (oLoc d))
  td := fun q d c s => match q with | 0 => share m d (coordsV c s) (delayed m d)
  x := fun _ _ => iprop(emp)

instance P_storable : (P m).IsStorable where
  st q d c := match q with
    | 0 => (inferInstance : Storable (upEmb : UEmb _ (MM F)) (bigSep Finset.univ fun s : Fin (grid0.bound 1) => share m d (coordsV c s) (m (oLoc d))))
  dn q d c := match q with
    | 0 => (inferInstance : Storable (upEmb : UEmb _ (MM F)) (bigSep Finset.univ fun s : Fin (grid0.bound 1) => share m d (coordsV c s) (delayed m d)))
  go q d c s := match q with | 0 => (inferInstance : Storable (upEmb : UEmb _ (MM F)) (share m d (coordsV c s) (m (oLoc d))))
  td q d c s := match q with | 0 => (inferInstance : Storable (upEmb : UEmb _ (MM F)) (share m d (coordsV c s) (delayed m d)))

/-! ## A subcore's buffers and semaphores -/

/-- The subcore's scratch buffers: two sets of slab, current values, delays and output. -/
def scratch : Fin 8 → Ref sig .scVector :=
  ![cc0_scratch0, cc0_scratch1, cc0_scratch2, cc0_scratch3, cc0_scratch4, cc0_scratch5, cc0_scratch6, cc0_scratch7]

/-- Its six copy semaphores. -/
def flags : Fin 6 → SemLoc sig :=
  ![.dma cc0_scratch8.sem, .dma cc0_scratch9.sem, .dma cc0_scratch10.sem, .dma cc0_scratch11.sem, .dma cc0_scratch12.sem, .dma cc0_scratch13.sem]

omit [FloatOps F] in
/-- The members a one-to-one function names, and the rest. -/
theorem bigSep_named {I J : Type} [DecidableEq I] [DecidableEq J] [Fintype J] {s : Finset I} {f : J → I} (hf : Function.Injective f) (hs : ∀ j, f j ∈ s)
    (Φ : I → sProp (MM F)) : bigSep s Φ = iprop((bigSep Finset.univ fun j => Φ (f j)) ∗ bigSep (s \ Finset.univ.image f) Φ) := by
  rw [SparseCore.bigSep_sdiff_split' (t := Finset.univ.image f) fun b hb => by obtain ⟨j, -, rfl⟩ := Finset.mem_image.mp hb; exact hs j,
    SparseCore.bigSep_image_of_injOn hf.injOn]

omit [FloatOps F] in
/-- A subcore's own buffers are the scratch buffers and the rest. -/
theorem ownBufs_scratch (d : Dev nD) (x : Fin τ.nSC) (y : Fin τ.nSub) :
    (ownBufs (V d x y) : sProp (MM F))
      = iprop((bigSep Finset.univ fun j : Fin 8 => iprop(∃ f, (V d x y).loc (scratch j) ↦{fullShare} f))
          ∗ bigSep (ownRefs (τ := τ) (.scVector x y) \ Finset.univ.image fun j : Fin 8 => (Proc.scVector x y).devRef (scratch j)) fun b => iprop(∃ f, ((d, b) : Loc nD τ sig) ↦{fullShare} f)) := by
  unfold SparseCore.Cfg.ownBufs
  refine bigSep_named (fun j j' e => ?_) (fun j => SparseCore.Cfg.mem_ownRefs_of_owner (p := Proc.scVector x y) ?_) _
  · have h : Function.Injective scratch := by decide
    exact h (Proc.devRef_injective _ e)
  · fin_cases j <;> rfl

omit [FloatOps F] in
/-- A subcore's own semaphores are the six and the rest. -/
theorem ownSems0_flags (d : Dev nD) (x : Fin τ.nSC) (y : Fin τ.nSub) :
    (ownSems0 (V d x y) : sProp (MM F))
      = iprop((bigSep Finset.univ fun j : Fin 6 => semVal (V d x y, flags j) 0)
          ∗ bigSep (ownCells (V d x y) \ Finset.univ.image fun j : Fin 6 => ((V d x y, flags j) : GSem nD τ sig)) fun g => semVal g 0) := by
  unfold SparseCore.Cfg.ownSems0
  refine bigSep_named (f := fun j : Fin 6 => ((V d x y, flags j) : GSem nD τ sig)) (fun j j' e => ?_) (fun j => mem_ownCells.mpr ⟨rfl, ?_⟩) _
  · have h : Function.Injective flags := by decide
    exact h (Prod.mk.inj e).2
  · show (flags j).isScoped .scVector = true
    revert j; decide

/-! ## A subcore's task -/

omit [FloatOps F] in
theorem bigSep_six (f : Fin 6 → sProp (MM F)) : bigSep Finset.univ f = iprop(f 0 ∗ f 1 ∗ f 2 ∗ f 3 ∗ f 4 ∗ f 5) := by
  rw [show (Finset.univ : Finset (Fin 6)) = {0, 1, 2, 3, 4, 5} by decide,
    SparseCore.bigSep_insert' (by decide), SparseCore.bigSep_insert' (by decide), SparseCore.bigSep_insert' (by decide),
    SparseCore.bigSep_insert' (by decide), SparseCore.bigSep_insert' (by decide), bigSep_singleton]

omit [FloatOps F] in
/-- Eight buffers and six semaphores, arranged as two sets of four and three. -/
theorem two_sets (A : Fin 8 → sProp (MM F)) (S : Fin 6 → sProp (MM F)) :
    iprop((bigSep Finset.univ A) ∗ bigSep Finset.univ S)
      = iprop(((A 2 ∗ A 1 ∗ A 0 ∗ S 0 ∗ S 2) ∗ (A 3 ∗ S 4)) ∗ ((A 6 ∗ A 5 ∗ A 4 ∗ S 1 ∗ S 3) ∗ (A 7 ∗ S 5))) := by
  rw [bigSep_chunks, bigSep_six]
  refine Entails.antisymm (show (_ : sProp (MM F)) ⊢ _ from ?_) (show (_ : sProp (MM F)) ⊢ _ from ?_)
  · iintro ⟨⟨A0, A1, A2, A3, A4, A5, A6, A7⟩, S0, S1, S2, S3, S4, S5⟩
    isplitl [A0 A1 A2 S0 S2 A3 S4]
    · isplitl [A0 A1 A2 S0 S2]
      · isplitl [A2]; · iexact A2
        isplitl [A1]; · iexact A1
        isplitl [A0]; · iexact A0
        isplitl [S0]; · iexact S0
        iexact S2
      isplitl [A3]; · iexact A3
      iexact S4
    isplitl [A4 A5 A6 S1 S3]
    · isplitl [A6]; · iexact A6
      isplitl [A5]; · iexact A5
      isplitl [A4]; · iexact A4
      isplitl [S1]; · iexact S1
      iexact S3
    isplitl [A7]; · iexact A7
    iexact S5
  · iintro ⟨⟨⟨A2, A1, A0, S0, S2⟩, A3, S4⟩, ⟨A6, A5, A4, S1, S3⟩, A7, S5⟩
    isplitl [A0 A1 A2 A3 A4 A5 A6 A7]
    · isplitl [A0]; · iexact A0
      isplitl [A1]; · iexact A1
      isplitl [A2]; · iexact A2
      isplitl [A3]; · iexact A3
      isplitl [A4]; · iexact A4
      isplitl [A5]; · iexact A5
      isplitl [A6]; · iexact A6
      iexact A7
    isplitl [S0]; · iexact S0
    isplitl [S1]; · iexact S1
    isplitl [S2]; · iexact S2
    isplitl [S3]; · iexact S3
    isplitl [S4]; · iexact S4
    iexact S5

omit [FloatOps F] in
/-- A whole buffer owned at some contents. -/
theorem owns_some (d : Dev nD) (x : Fin τ.nSC) (y : Fin τ.nSub) (b : Ref sig .scVector) :
    (iprop(∃ f, (V d x y).loc b ↦{fullShare} f) : sProp (MM F)) = iprop(∃ X, owns (V d x y) (Memref.whole b) fullShare X) :=
  congrArg _ (funext fun f => (owns_whole (V d x y) b fullShare f).symm)

omit [FloatOps F] in
/-- The scratch buffers and the six semaphores at rest are the two sets of buffers at rest. -/
theorem halves_eq (d : Dev nD) (x : Fin τ.nSC) (y : Fin τ.nSub) :
    iprop((bigSep Finset.univ fun j : Fin 8 => (iprop(∃ f, (V d x y).loc (scratch j) ↦{fullShare} f) : sProp (MM F)))
        ∗ bigSep Finset.univ fun j : Fin 6 => semVal (V d x y, flags j) 0)
      = iprop((idle d x y H₀ ∗ idleO d x y H₀) ∗ (idle d x y H₁ ∗ idleO d x y H₁)) := by
  refine (two_sets _ _).trans ?_
  rw [owns_some, owns_some, owns_some, owns_some, owns_some, owns_some, owns_some, owns_some]
  rfl

/-- A share opened into the chunks' windows, -/
theorem share_open (d : Dev nD) (i : grid0.Coords) :
    share m d i (m (oLoc d))
      ⊢ iprop((bigSep Finset.univ fun k => inWin d x y i G₀ k (valsAt m d i k)) ∗ (bigSep Finset.univ fun k => iprop(∃ Z, outWin d x y i G₀ k Z))) := by
  unfold share
  rw [bigSep_sep']
  refine BI.sep_mono (bigSep_mono fun k _ => Entails.of_eq (inWin_eq m d i k).symm) (bigSep_mono fun k _ => ?_)
  show (_ : sProp (MM F)) ⊢ _
  iintro H
  iexists (fun j => (m (oLoc d) : S1000000.Idx → Elt F .f32) ((colRect i k).emb j))
  iapply (Entails.of_eq (outWin_eq (x := x) (y := y) d i k (m (oLoc d))).symm)
  iexact H

/-- and closed again, the output's windows at the chunks' outputs. -/
theorem share_close (d : Dev nD) (i : grid0.Coords) :
    iprop((bigSep Finset.univ fun k => inWin d x y i G₀ k (valsAt m d i k)) ∗ (bigSep Finset.univ fun k => outWin d x y i G₀ k (valsAt m d i k).out))
      ⊢ share m d i (delayed m d) := by
  unfold share
  rw [bigSep_sep']
  refine BI.sep_mono (bigSep_mono fun k _ => Entails.of_eq (inWin_eq m d i k)) (bigSep_mono fun k _ => ?_)
  rw [out_valsAt]
  exact Entails.of_eq (outWin_eq d i k (delayed m d))

/-- The kernel's run on one subcore, as the launch spells it: its share of the arrays with the output at launch
    contents, back with the output at the delayed values. -/
theorem tile_body (hr : InRange m) (d : Dev nD) (i : grid0.Coords) (O : CellTallies nD τ sig (HIx 1)) (W : Waits sig (HIx 1)) (hO : ∀ g, O g none = 0) :
    iprop(levAts (K (F := F)).L (K (F := F)).lev ∗ emp ∗ share m d i (m (oLoc d))
        ∗ scopedBufs (V d ((i 0).castLE hcore0) ((i 1).castLE hsub0)) ∗ scopedSems0 (V d ((i 0).castLE hcore0) ((i 1).castLE hsub0)) ∗ owes (V d ((i 0).castLE hcore0) ((i 1).castLE hsub0)) O W)
      ⊢ wp frame (wpE (defs₀ (F := F)) 𝒱₀ (V d ((i 0).castLE hcore0) ((i 1).castLE hsub0)) none) Set.univ
          (cc0__sc_body i (Memref.whole main_arg0_scv) (Memref.isWhole_whole _) (Memref.whole main_arg1_scv) (Memref.isWhole_whole _) (Memref.whole main_arg2_scv) (Memref.isWhole_whole _) (Memref.whole main_v0_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13)
          fun _ => iprop(share m d i (delayed m d) ∗ scopedBufs (V d ((i 0).castLE hcore0) ((i 1).castLE hsub0)) ∗ scopedSems0 (V d ((i 0).castLE hcore0) ((i 1).castLE hsub0))
            ∗ ∃ W', ⌜∀ p ∈ W', p ∈ W ∨ p.2 = none⌝ ∗ owes (V d ((i 0).castLE hcore0) ((i 1).castLE hsub0)) O W') := by
  rw [body_eq_tile, (K (F := F)).scopedBufs_V facts d ((i 0).castLE hcore0) ((i 1).castLE hsub0), SparseCore.Cfg.scopedSems0_V (Val := Elt F) d ((i 0).castLE hcore0) ((i 1).castLE hsub0),
    ownBufs_scratch, ownSems0_flags]
  iintro ⟨#Hlv, -, Hsh, ⟨Hb, Hbs⟩, ⟨Hs, Hss⟩, HO⟩
  ihave Hmw := ((K (F := F)).mayWaits_none (thr := V d ((i 0).castLE hcore0) ((i 1).castLE hsub0)) hO) $$ Hlv
  ihave HH := (Entails.of_eq (halves_eq d ((i 0).castLE hcore0) ((i 1).castLE hsub0))) $$ [Hb Hs]
  · isplitl [Hb]; · iexact Hb
    iexact Hs
  icases HH with ⟨HR, HR'⟩
  ihave Hsh' := (share_open m d i (x := (i 0).castLE hcore0) (y := (i 1).castLE hsub0)) $$ Hsh
  icases Hsh' with ⟨HI, HZ⟩
  iapply ((tile_run (O := O) (W := W) d i G₀ H₀ H₁ (valsAt m d i) rfl rfl (fun k t => hr d _)).trans (wp_wand frame _ _)) $$ [Hmw HI HZ HR HR' HO]
  · isplitl [Hmw]; · iexact Hmw
    isplitl [HI]; · iexact HI
    isplitl [HZ]; · iexact HZ
    isplitl [HR]; · iexact HR
    isplitl [HR']; · iexact HR'
    unfold owing
    iexists W
    isplitr
    · ipureintro; exact fun p hp => .inl hp
    · iexact HO
  iintro %_ ⟨HI, HZ, HR, HR', HO⟩
  isplitl [HI HZ]
  · iapply (share_close m d i (x := (i 0).castLE hcore0) (y := (i 1).castLE hsub0))
    isplitl [HI]; · iexact HI
    iexact HZ
  ihave HH := (Entails.of_eq (halves_eq d ((i 0).castLE hcore0) ((i 1).castLE hsub0)).symm) $$ [HR HR']
  · isplitl [HR]; · iexact HR
    iexact HR'
  icases HH with ⟨Hb, Hs⟩
  isplitl [Hb Hbs]
  · isplitl [Hb]; · iexact Hb
    iexact Hbs
  isplitl [Hs Hss]
  · isplitl [Hs]; · iexact Hs
    iexact Hss
  unfold owing
  iexact HO

/-! ## What the launch theorem asks of the call -/

theorem defs₀_vector (c : Fin τ.nSC) (s : Fin τ.nSub) :
    defs₀ (F := F) (.scVector c s) 0 ()
      = SparseCore.onTile hcore0 hsub0 (fun c s => cc0__sc_body (coordsV c s) (Memref.whole main_arg0_scv) (Memref.isWhole_whole _) (Memref.whole main_arg1_scv) (Memref.isWhole_whole _) (Memref.whole main_arg2_scv) (Memref.isWhole_whole _) (Memref.whole main_v0_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13) ⟨⟩ c s := rfl

omit [FloatOps F] in
/-- A task's waits, weakened to what the launch theorem lets a task of call `q` record. -/
theorem waits_weaken {thr : Thread nD τ} {A B C : sProp (MM F)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every vector subcore runs its task. -/
theorem tileObl (hr : InRange m) : (K (F := F)).TileObl (D (F := F)) 𝒱 (P m) (Sum.inl none) 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m hr d (coordsV ⟨_, hc.1⟩ ⟨_, hc.2⟩) O W hO).trans (wp_mono frame _ _ fun _ => waits_weaken)

/-- A SparseCore's payload is its subcores'. -/
theorem vecSplit : (K (F := F)).VecSplit' (P m) 0 := by
  intro d c
  show (bigSep Finset.univ fun s : Fin (grid0.bound 1) => share m d (coordsV c s) (m (oLoc d)))
    ⊢ |={Set.univ}=> iprop((bigSep Finset.univ fun s : Fin (grid0.bound 1) => share m d (coordsV c s) (m (oLoc d)))
      ∗ ((bigSep Finset.univ fun s : Fin (grid0.bound 1) => share m d (coordsV c s) (delayed m d))
          -∗ bigSep Finset.univ fun s : Fin (grid0.bound 1) => share m d (coordsV c s) (delayed m d)))
  iintro H; imodintro
  isplitl [H]; · iexact H
  iintro H
  iexact H

/-! ## The arrays dealt and gathered -/

/-- The chunks of the grid. -/
abbrev Chunks : Type := Fin (grid0.bound 0) × Fin (grid0.bound 1) × Fin 8

abbrev colsOf (t : Chunks) : Finset S1000000.Idx := (colRect (coordsV t.1 t.2.1) t.2.2).set
abbrev slabOf (t : Chunks) : Finset S32x1000000.Idx := (slabRect (coordsV t.1 t.2.1) t.2.2).set

/-- The columns the SparseCores cover. -/
abbrev covered : Finset S1000000.Idx := Finset.univ.biUnion colsOf

theorem mem_colsOf (t : Chunks) (n : S1000000.Idx) :
    n ∈ colsOf t ↔ 2048 * t.2.1.val + 1024 * t.1.val + 32768 * t.2.2.val ≤ (n 0).val ∧ (n 0).val < 2048 * t.2.1.val + 1024 * t.1.val + 32768 * t.2.2.val + 1024 :=
  mem_colRect _ _ n

theorem mem_slabOf (t : Chunks) (n : S32x1000000.Idx) :
    n ∈ slabOf t ↔ 2048 * t.2.1.val + 1024 * t.1.val + 32768 * t.2.2.val ≤ (n 1).val ∧ (n 1).val < 2048 * t.2.1.val + 1024 * t.1.val + 32768 * t.2.2.val + 1024 :=
  mem_slabRect _ _ n

/-- Two chunks with a column in common are one. -/
theorem chunk_unique {t t' : Chunks} {c : ℕ}
    (h : 2048 * t.2.1.val + 1024 * t.1.val + 32768 * t.2.2.val ≤ c ∧ c < 2048 * t.2.1.val + 1024 * t.1.val + 32768 * t.2.2.val + 1024)
    (h' : 2048 * t'.2.1.val + 1024 * t'.1.val + 32768 * t'.2.2.val ≤ c ∧ c < 2048 * t'.2.1.val + 1024 * t'.1.val + 32768 * t'.2.2.val + 1024) : t = t' := by
  obtain ⟨⟨a, ha⟩, ⟨b, hb⟩, ⟨k, hk⟩⟩ := t
  obtain ⟨⟨a', ha'⟩, ⟨b', hb'⟩, ⟨k', hk'⟩⟩ := t'
  have ha : a < 2 := ha
  have ha' : a' < 2 := ha'
  have hb : b < 16 := hb
  have hb' : b' < 16 := hb'
  dsimp only at h h'
  obtain rfl : k = k' := by omega
  obtain rfl : b = b' := by omega
  obtain rfl : a = a' := by omega
  rfl

theorem cols_disjoint : ∀ t ∈ (Finset.univ : Finset Chunks), ∀ t' ∈ (Finset.univ : Finset Chunks), t ≠ t' → Disjoint (colsOf t) (colsOf t') :=
  fun t _ t' _ h => Finset.disjoint_left.mpr fun n hn hn' => h (chunk_unique ((mem_colsOf t n).mp hn) ((mem_colsOf t' n).mp hn'))

theorem slabs_disjoint : ∀ t ∈ (Finset.univ : Finset Chunks), ∀ t' ∈ (Finset.univ : Finset Chunks), t ≠ t' → Disjoint (slabOf t) (slabOf t') :=
  fun t _ t' _ h => Finset.disjoint_left.mpr fun n hn hn' => h (chunk_unique ((mem_slabOf t n).mp hn) ((mem_slabOf t' n).mp hn'))

/-- They are the columns below 262144. -/
theorem mem_covered (n : S1000000.Idx) : n ∈ covered ↔ (n 0).val < 262144 := by
  rw [Finset.mem_biUnion]
  constructor
  · rintro ⟨⟨⟨a, ha⟩, ⟨b, hb⟩, ⟨k, hk⟩⟩, -, h⟩
    rw [mem_colsOf] at h
    have ha : a < 2 := ha
    have hb : b < 16 := hb
    dsimp only at h
    omega
  · intro h
    refine ⟨⟨⟨(n 0).val / 1024 % 2, show _ < 2 by omega⟩, ⟨(n 0).val / 2048 % 16, show _ < 16 by omega⟩, ⟨(n 0).val / 32768, by omega⟩⟩, Finset.mem_univ _, ?_⟩
    rw [mem_colsOf]
    dsimp only
    omega

/-- The shares of the grid are the covered columns of each array. -/
theorem shares_eq (d : Dev nD) (f : S1000000.Idx → Elt F .f32) :
    (bigSep Finset.univ fun c : Fin (grid0.bound 0) => bigSep Finset.univ fun s : Fin (grid0.bound 1) => share m d (coordsV c s) f)
      = iprop(((dLoc d ↦[covered]{fullShare} m (dLoc d)) ∗ (aLoc d ↦[covered]{fullShare} m (aLoc d)) ∗ (hLoc d ↦[Finset.univ.biUnion slabOf]{fullShare} m (hLoc d)))
          ∗ (oLoc d ↦[covered]{fullShare} f)) := by
  rw [pointsTo_biUnion (ℓ := dLoc d) Finset.univ colsOf cols_disjoint, pointsTo_biUnion (ℓ := aLoc d) Finset.univ colsOf cols_disjoint,
    pointsTo_biUnion (ℓ := hLoc d) Finset.univ slabOf slabs_disjoint, pointsTo_biUnion (ℓ := oLoc d) Finset.univ colsOf cols_disjoint,
    ← bigSep_sep', ← bigSep_sep', ← bigSep_sep', bigSep_univ_prod]
  refine bigSep_congr fun c _ => ?_
  rw [bigSep_univ_prod]
  rfl

end Cert.Proof.Hist
-- ==== Proof.Tc.lean ====
/-
  The TensorCore kernel's body: what it leaves in its output block, column by column, and its run over
  any four staging buffers.
-/
module

public import proofs.«01_k».proof.Proof.Call
public import Idealize.ShloMosaic.Lib.Pipeline.DatRel
public import Idealize.ShloMosaic.Lib.Pipeline.ArrRel

@[expose] public section

noncomputable section

namespace Cert.Proof.Hist

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The value of a column -/

/-- Row `r` of column `j` of a block of the history. -/
def rowOf (r : Fin 32) (j : S65536.Idx) : S32x65536.Idx := fun
  | 0 => r
  | 1 => j 0

/-- Column `j` of a one-row block. -/
def unitRow (j : S65536.Idx) : S1x65536.Idx := fun
  | 0 => (0 : Fin 1)
  | 1 => j 0

/-- The float addition the kernel sums a column with gives back a column's one entry when every other
    entry is zero. -/
def SumsHit (F : FTy → Type) [FloatOps F] : Prop :=
  ∀ (x : FVec F S32x65536 .f32) (j : S65536.Idx) (r : Fin 32),
    (∀ k, k ≠ r → x (rowOf k j) = Scalar.ofBits .f32 0x00000000#32) →
      multiReduction .add [0] S65536 x 0x00000000#32 reduces_S32x65536_S65536 (.inl rfl) rfl j = x (rowOf r j)

/-- The row `dl - 1` a delay of `dl` steps reads. -/
def backRow (dl : BitVec 32) : Fin 32 := Fin.ofNat 32 (dl.toNat - 1)

/-- The delay, less one, is the word of the row it reads and of no other, when it is a delay of at least
    one step and under 32. -/
theorem row_hit {dl : BitVec 32} (h : dl.toNat < 32) (h0 : dl ≠ 0#32) (k : Fin 32) :
    BitVec.ofNat 32 k.val = dl - 1#32 ↔ k = backRow dl := by
  have h1 : dl.toNat ≠ 0 := fun e => h0 (BitVec.eq_of_toNat_eq (by simpa using e))
  have hk := k.isLt
  rw [← BitVec.toNat_inj, Fin.ext_iff]
  unfold backRow
  simp only [BitVec.toNat_ofNat, BitVec.toNat_sub, Fin.val_ofNat]
  omega

/-- A column of the body's output: the current value at delay 0, else the history's at the row the delay
    reads. -/
theorem pay_apply (hF : SumsHit F) (d : Vec F S65536 .i32) (h : Vec F S32x65536 .f32) (a : Vec F S65536 .f32) (j : S65536.Idx)
    (hd : (d j).toNat < 32) :
    k1_pay1 d h a j = if d j = 0#32 then a j else h (rowOf (backRow (d j)) j) := by
  have hrow : ∀ k : Fin 32, (broadcastTo S32x65536 (shapeCast S1x65536 (subi d (broadcast S65536 1#32)) shapeCasts_S65536_S1x65536)
      broadcasts_S1x65536_S32x65536 : IVec S32x65536 32) (rowOf k j) = d j - 1#32 := by
    intro k
    rw [broadcastTo_apply (s := S1x65536) (t := S32x65536) _ _ (rowOf k j) (unitRow j) (fun a => match a with | 0 => rfl | 1 => rfl)]
    rw [shapeCast_apply (s := S65536) (t := S1x65536) _ _ (unitRow j) j (by
      rw [Shape.rowMajor_val_one, Shape.rowMajor_val_two]
      show (j 0).val = 0 * 65536 + (j 0).val
      omega)]
    rfl
  have hsel : ∀ k : Fin 32, (select (cmpi .eq (iota .tc S32x65536 32 [0] iota_S32x65536_d0_w32)
      (broadcastTo S32x65536 (shapeCast S1x65536 (subi d (broadcast S65536 1#32)) shapeCasts_S65536_S1x65536) broadcasts_S1x65536_S32x65536))
        h (broadcast S32x65536 (Scalar.ofBits .f32 0x00000000#32 : F .f32))) (rowOf k j)
      = if BitVec.ofNat 32 k.val = d j - 1#32 then h (rowOf k j) else Scalar.ofBits .f32 0x00000000#32 := by
    intro k
    rw [← hrow k]
    show Scalar.select (BitVec.ofBool (BitVec.ofNat 32 (0 * 32 + k.val) == _)) _ _ = _
    rw [Nat.zero_mul, Nat.zero_add]
    by_cases hk : BitVec.ofNat 32 k.val = (broadcastTo S32x65536 (shapeCast S1x65536 (subi d (broadcast S65536 1#32)) shapeCasts_S65536_S1x65536)
      broadcasts_S1x65536_S32x65536 : IVec S32x65536 32) (rowOf k j)
    · rw [if_pos hk, beq_iff_eq.mpr hk]; rfl
    · rw [if_neg hk, beq_eq_false_iff_ne.mpr hk]; rfl
  show Scalar.select (BitVec.ofBool (d j == 0#32)) (a j) (multiReduction .add [0] S65536 _ 0x00000000#32 reduces_S32x65536_S65536 (.inl rfl) rfl j) = _
  by_cases h0 : d j = 0#32
  · rw [if_pos h0, beq_iff_eq.mpr h0]; rfl
  · rw [if_neg h0, beq_eq_false_iff_ne.mpr h0]
    refine (hF _ j (backRow (d j)) fun k hk => ?_).trans ?_
    · rw [hsel k, if_neg fun e => hk ((row_hit hd h0 k).mp e)]
    · rw [hsel (backRow (d j)), if_pos ((row_hit hd h0 _).mpr rfl)]

/-! ## The body's run -/

/-- The whole of a shape, as a rectangle from zero, places every index at itself. -/
theorem unit_zero_emb {s : Shape} {off : Fin s.rank → ℕ} (h0 : ∀ a, off a = 0) {inb} (x : s.Idx) :
    (Rect.unit (s := s) off s.size inb).emb x = x := by
  funext a
  refine Fin.ext ?_
  rw [Rect.emb_apply]
  show off a + 1 * (x a).val = _
  rw [h0 a]; omega

/-- A load through the whole of a buffer reads it as it is. -/
theorem unit_zero_idx {s : Shape} {off : Fin s.rank → ℕ} (h0 : ∀ a, off a = 0) {inb} (x : s.Idx) :
    (Rect.unit (s := s) off s.size inb).toLoadRect.idx x = x :=
  unit_zero_emb h0 x

/-- A store through the whole of a buffer leaves what was stored. -/
theorem unit_zero_overlay {s : Shape} {α : Type} {off : Fin s.rank → ℕ} (h0 : ∀ a, off a = 0) {inb} (X : s.Idx → α) (w : s.Idx → α) :
    (Rect.unit (s := s) off s.size inb).overlay X w = w := by
  funext x
  have h := Rect.overlay_emb (Rect.unit (s := s) off s.size inb) X w x
  rwa [unit_zero_emb h0] at h

theorem one_zero : ∀ a : Fin 1, (![0] : Fin 1 → ℕ) a = 0 := by decide
theorem two_zero : ∀ a : Fin 2, (![0, 0] : Fin 2 → ℕ) a = 0 := by decide

section Whole

variable {c : Thread nD τ} {α : Type} {Q : α → sProp (MM F)}

/-- A load of the whole of an owned memref continues at its contents. -/
theorem load_whole {cs : CoreSpace} {s : Shape} {e : EltTy} (m : Memref sig c.2.kind cs s e) {off : Fin s.rank → ℕ} {inb}
    (h0 : ∀ a, off a = 0) {hl : m.view.LoadsAt (Rect.unit (s := s) off s.size inb).toLoadRect}
    {k : (s.Idx → Elt F e) → Prog (TpuEff nD τ sig (Elt F) Λ₀ c.2) α} {q : PosShare TreeShare} {X : s.Idx → Elt F e} :
    (owns c m q X : sProp (MM F))
      ⊢ iprop((owns c m q X -∗ wpT c (k X) Q) -∗ wpT c (Prog.lift (.load m (Rect.unit (s := s) off s.size inb).toLoadRect hl) >>= k) Q) := by
  have h := load_owns (F := F) (c := c) m (r := (Rect.unit (s := s) off s.size inb).toLoadRect) (hl := hl) (k := k) (q := q) (X := X) (Q := Q)
  rwa [show (fun x => X ((Rect.unit (s := s) off s.size inb).toLoadRect.idx x)) = X from funext fun x => congrArg X (unit_zero_idx h0 x)] at h

/-- An unmasked store to the whole of an owned memref leaves it at what was stored. -/
theorem store_whole {cs : CoreSpace} {s : Shape} {e : EltTy} (m : Memref sig c.2.kind cs s e) {off : Fin s.rank → ℕ} {inb}
    (h0 : ∀ a, off a = 0) {w : s.Idx → Elt F e} {hx : (m.access (Rect.unit (s := s) off s.size inb)).Stores Finset.univ}
    {hm : Finset.univ = Finset.univ ∨ ∀ a, (Rect.unit (s := s) off s.size inb).stride a = 1}
    {k : PUnit → Prog (TpuEff nD τ sig (Elt F) Λ₀ c.2) α} {X : s.Idx → Elt F e} :
    (owns c m fullShare X : sProp (MM F))
      ⊢ iprop((owns c m fullShare w -∗ wpT c (k ⟨⟩) Q)
          -∗ wpT c (Prog.lift (.store m (Rect.unit (s := s) off s.size inb) w Finset.univ hx hm) >>= k) Q) := by
  have h := store_owns (F := F) (c := c) m (r := Rect.unit (s := s) off s.size inb) (fun _ => rfl) (w := w) (hx := hx) (hm := hm) (k := k) (X := X) (Q := Q)
  rwa [unit_zero_overlay h0] at h

end Whole

variable {c : Dev nD} {Q : PUnit → sProp (MM F)}

/-- The body reads its three input blocks and leaves the output block at `k1_pay1` of them. -/
theorem tc_body (i : grid1.Coords) (m1 : Memref sig .tc .vmem S65536 .f32) (w1 : m1.IsWhole) (m2 : Memref sig .tc .vmem S65536 .i32) (w2 : m2.IsWhole)
    (m3 : Memref sig .tc .vmem S32x65536 .f32) (w3 : m3.IsWhole) (m4 : Memref sig .tc .vmem S65536 .f32) (w4 : m4.IsWhole)
    (a : S65536.Idx → Elt F .f32) (d : S65536.Idx → Elt F .i32) (h : S32x65536.Idx → Elt F .f32) (y : S65536.Idx → Elt F .f32) :
    iprop(owns (T c) m1 fullShare a ∗ owns (T c) m2 fullShare d ∗ owns (T c) m3 fullShare h ∗ owns (T c) m4 fullShare y)
      ⊢ iprop((owns (T c) m1 fullShare a ∗ owns (T c) m2 fullShare d ∗ owns (T c) m3 fullShare h ∗ owns (T c) m4 fullShare (k1_pay1 d h a) -∗ Q ⟨⟩)
          -∗ wpT (T c) (cc1__tc_body (F := F) i m1 w1 m2 w2 m3 w3 m4 w4) Q) := by
  rw [cc1__tc_body_eq_skeleton]
  unfold cc1__tc_body_skel
  iintro ⟨H1, H2, H3, H4⟩ Hk
  iapply (load_whole (c := T c) m2 one_zero) $$ H2
  iintro H2
  iapply (load_whole (c := T c) m3 two_zero) $$ H3
  iintro H3
  iapply (load_whole (c := T c) m1 one_zero) $$ H1
  iintro H1
  iapply (load_whole (c := T c) m4 one_zero) $$ H4
  iintro H4
  iapply (store_whole (c := T c) m4 one_zero) $$ H4
  iintro H4
  iapply (pure_step (c := T c))
  iapply Hk
  isplitl [H1]; · iexact H1
  isplitl [H2]; · iexact H2
  isplitl [H3]; · iexact H3
  iexact H4

end Cert.Proof.Hist
-- ==== Proof.TcData.lean ====
/-
  The TensorCore kernel's pipeline: the blocks it reads and writes as columns of the arrays, the relation
  its body keeps at every point, and what the output array holds when the last block has been written.

  The last block overhangs the arrays, so a staging buffer's tail is words nothing names. The body's sum is
  stated only of columns inside the arrays, and only for a float addition that sums a column with one entry
  to that entry (`SumsHit`).
-/
module

public import proofs.«01_k».proof.Proof.Tc

@[expose] public section

noncomputable section

namespace Cert.Proof.Hist

open Cert.KernelIdeal Cert.KernelIdeal.Gen
open Idealize.ShloMosaic
open Idealize.ShloMosaic.TcCoe
open Idealize.ShloMosaic.SparseCore (S V T)
open Idealize.ShloMosaic.Pipeline (RDat)
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The blocks as columns -/

/-- How many of a block's columns lie inside the arrays. -/
abbrev width (t : Fin grid1.N) : ℕ := min 65536 (737856 - 65536 * t.val)

theorem size1_0 : ∀ t : Fin grid1.N, win1_0.xsize (grid1.coords t) 0 = width t := by decide +kernel
theorem size1_1 : ∀ t : Fin grid1.N, win1_1.xsize (grid1.coords t) 0 = width t := by decide +kernel
theorem size1_2 : ∀ t : Fin grid1.N, win1_2.xsize (grid1.coords t) 0 = 32 ∧ win1_2.xsize (grid1.coords t) 1 = width t := by decide +kernel
theorem size1_3 : ∀ t : Fin grid1.N, win1_3.xsize (grid1.coords t) 0 = width t := by decide +kernel

theorem off1_0 : ∀ t : Fin grid1.N, (win1_0.rect t).off 0 = 262144 + 65536 * t.val := by decide +kernel
theorem off1_1 : ∀ t : Fin grid1.N, (win1_1.rect t).off 0 = 262144 + 65536 * t.val := by decide +kernel
theorem off1_2 : ∀ t : Fin grid1.N, (win1_2.rect t).off 0 = 0 ∧ (win1_2.rect t).off 1 = 262144 + 65536 * t.val := by decide +kernel
theorem off1_3 : ∀ t : Fin grid1.N, (win1_3.rect t).off 0 = 65536 * t.val := by decide +kernel

-- the launch memory
variable (m : (ℓ : Loc nD τ sig) → Buf (Elt F) ℓ)

/-- The column of the arrays that the TensorCore's output column `n` is. -/
def tailIx (n : S737856.Idx) : S1000000.Idx := fun
  | 0 => (⟨(n 0).val + 262144, by have h : (n 0).val < 737856 := (n 0).isLt; omega⟩ : Fin 1000000)

/-- What the TensorCore's output array is to hold. -/
def tail (c : Dev nD) : S737856.Idx → Elt F .f32 := fun n => delayed m c (tailIx n)

/-- The output column that lane `j` of point `t`'s block is. -/
def outIx (t : Fin grid1.N) (j : Fin 65536) (h : j.val < width t) : S737856.Idx :=
  fun | 0 => (⟨65536 * t.val + j.val, by simp only [width] at h; omega⟩ : Fin 737856)

/-- The TensorCore's output array at launch. -/
abbrev pLoc (c : Dev nD) : Loc nD τ sig := (SparseCore.T c : Thread nD τ).loc main_v1

/-- A fetched block of the current values, on its columns inside the array. -/
theorem fill1_0 (c : Dev nD) (t : Fin grid1.N) (d : S65536.Idx → Elt F .f32) (j : S65536.Idx) (h : (j 0).val < width t) :
    win1_0.fill (grid1.coords t) d ((win1_0.blk t).view.read (Elt F) (m (aLoc c))) j = aAt m c (tailIx (outIx t (j 0) h)) := by
  unfold Pipeline.Window.fill
  rw [dif_pos ((win1_0.moved_iff _ j).mpr fun a => match a with | 0 => by rw [size1_0]; exact h)]
  refine congrArg (m (aLoc c)) (funext fun a => Fin.ext ?_)
  match a with
  | 0 =>
    show (win1_0.rect t).off 0 + 1 * (j 0).val = 65536 * t.val + (j 0).val + 262144
    rw [off1_0]; omega

/-- A fetched block of the delays, the same. -/
theorem fill1_1 (c : Dev nD) (t : Fin grid1.N) (d : S65536.Idx → Elt F .i32) (j : S65536.Idx) (h : (j 0).val < width t) :
    win1_1.fill (grid1.coords t) d ((win1_1.blk t).view.read (Elt F) (m (dLoc c))) j = dAt m c (tailIx (outIx t (j 0) h)) := by
  unfold Pipeline.Window.fill
  rw [dif_pos ((win1_1.moved_iff _ j).mpr fun a => match a with | 0 => by rw [size1_1]; exact h)]
  refine congrArg (m (dLoc c)) (funext fun a => Fin.ext ?_)
  match a with
  | 0 =>
    show (win1_1.rect t).off 0 + 1 * (j 0).val = 65536 * t.val + (j 0).val + 262144
    rw [off1_1]; omega

/-- A fetched block of the history, the same, at the row a delay reads. -/
theorem fill1_2 (c : Dev nD) (t : Fin grid1.N) (d : S32x65536.Idx → Elt F .f32) (j : S65536.Idx) (h : (j 0).val < width t) (dl : BitVec 32) :
    win1_2.fill (grid1.coords t) d ((win1_2.blk t).view.read (Elt F) (m (hLoc c))) (rowOf (backRow dl) j)
      = hAt m c (backIx dl (tailIx (outIx t (j 0) h))) := by
  unfold Pipeline.Window.fill
  rw [dif_pos ((win1_2.moved_iff _ _).mpr fun a => match a with
    | 0 => by rw [(size1_2 t).1]; exact (backRow dl).isLt
    | 1 => by rw [(size1_2 t).2]; exact h)]
  refine congrArg (m (hLoc c)) (funext fun a => Fin.ext ?_)
  match a with
  | 0 =>
    show (win1_2.rect t).off 0 + 1 * (backRow dl).val = (backRow dl).val
    rw [(off1_2 t).1]; omega
  | 1 =>
    show (win1_2.rect t).off 1 + 1 * (j 0).val = 65536 * t.val + (j 0).val + 262144
    rw [(off1_2 t).2]; omega

/-- The body's output on a column inside the arrays is what the output array is to hold there. -/
theorem block_value (hr : InRange m) (hF : SumsHit F) (c : Dev nD) (t : Fin grid1.N) (d0 : S65536.Idx → Elt F .f32) (d1 : S65536.Idx → Elt F .i32)
    (d2 : S32x65536.Idx → Elt F .f32) (j : S65536.Idx) (h : (j 0).val < width t) :
    k1_pay1 (win1_1.fill (grid1.coords t) d1 ((win1_1.blk t).view.read (Elt F) (m (dLoc c))))
        (win1_2.fill (grid1.coords t) d2 ((win1_2.blk t).view.read (Elt F) (m (hLoc c))))
        (win1_0.fill (grid1.coords t) d0 ((win1_0.blk t).view.read (Elt F) (m (aLoc c)))) j
      = tail m c (outIx t (j 0) h) := by
  have e1 := fill1_1 m c t d1 j h
  refine (pay_apply hF _ _ _ j (by rw [e1]; exact hr c _)).trans ?_
  rw [e1, fill1_0 m c t d0 j h, fill1_2 m c t d2 j h]
  rfl

/-! ## The relation the body keeps -/

/-- What the body may leave in the output's buffer at point `t`: on the columns inside the array, what the
    output array is to hold, if the float addition sums a column with one entry to that entry. -/
def Left (c : Dev nD) (t : Fin grid1.N) (X : S65536.Idx → Elt F .f32) : Prop :=
  SumsHit F → ∀ (j : S65536.Idx) (h : (j 0).val < width t), X j = tail m c (outIx t (j 0) h)

/-- The pairs the core may have recorded: those at level 0. -/
abbrev recorded (c : Dev nD) : Set (SemLoc sig × SparseCore.Cfg.HIx 1) := {p | (K (F := F)).lev (T c, p.1) p.2 ≤ 8}

/-- The pipeline's data on a TensorCore: the arrays at their launch contents; the input buffers left as they
    were found, the output's in `Left`. -/
def rdat (c : Dev nD) : RDat τ (Elt F) (SparseCore.Cfg.HIx 1) ℕ UU ℕ cfg1 c where
  A w := m ((cfg1.win w).arr.view.loc (T c))
  after w t Y X := match w, Y, X with
    | ⟨0, _⟩, Y, X => X = Y
    | ⟨1, _⟩, Y, X => X = Y
    | ⟨2, _⟩, Y, X => X = Y
    | ⟨3, _⟩, _, X => Left m c t X
  Φ _ := iprop(emp)
  q _ := fullShare
  owed _ := 0
  recorded _ := recorded (F := F) c

theorem body_obligation (hr : InRange m) (c : Dev nD) : (rdat m c).BodyObligation (defs₀ (F := F)) 𝒱₀ none Set.univ := by
  intro t Y hY
  rw [bigSep_W1, bigSep_W1]
  obtain ⟨d0, h0⟩ := ((rdat m c).finds_of_fetch (fetch1_0 t) _).mp (hY 0)
  obtain ⟨d1, h1⟩ := ((rdat m c).finds_of_fetch (fetch1_1 t) _).mp (hY 1)
  obtain ⟨d2, h2⟩ := ((rdat m c).finds_of_fetch (fetch1_2 t) _).mp (hY 2)
  rw [show (rdat m c).Φ t.succ = (rdat m c).Φ t.castSucc from rfl,
    show (rdat m c).owesAt none t.succ = (rdat m c).owesAt none t.castSucc from rfl]
  iintro ⟨HΦ, Ho, H0, H1, H2, H3⟩
  iapply (tc_body (F := F) (c := c) (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2))
    (win1_3.stage (cfg1.slots t 3)) (hstage1_3 ((cfg1.slots t 3).cast nbuf1_3)) (Y 0) (Y 1) (Y 2) (Y 3)) $$ [H0 H1 H2 H3]
  · isplitl [H0]; · iexact H0
    isplitl [H1]; · iexact H1
    isplitl [H2]; · iexact H2
    iexact H3
  iintro ⟨H0, H1, H2, H3⟩
  isplitl [HΦ]; · iexact HΦ
  isplitl [Ho]; · iexact Ho
  isplitl [H0]
  · iexists (Y 0); isplitr; · ipureintro; rfl
    iexact H0
  isplitl [H1]
  · iexists (Y 1); isplitr; · ipureintro; rfl
    iexact H1
  isplitl [H2]
  · iexists (Y 2); isplitr; · ipureintro; rfl
    iexact H2
  iexists (k1_pay1 (Y 1) (Y 2) (Y 0)); isplitr
  · ipureintro
    intro hF j h
    rw [h0, h1, h2]
    exact block_value m hr hF c t d0 d1 d2 j h
  iexact H3

end Cert.Proof.Hist
-- ==== Proof.TcRun.lean ====
/-
  The TensorCore kernel's region: entered with the three inputs and the output array as at launch, left with
  the inputs unchanged and the output holding the delayed values of its columns.
-/
module

public import proofs.«01_k».proof.Proof.TcData
public import Idealize.ShloMosaic.Lib.Pipeline.RegionArrays

@[expose] public section

noncomputable section

namespace Cert.Proof.Hist

open Cert.KernelIdeal Cert.KernelIdeal.Gen
open Idealize.ShloMosaic
open Idealize.ShloMosaic.TcCoe
open Idealize.ShloMosaic.SparseCore (S V T)
open Idealize.ShloMosaic.Pipeline (RDat)
open Idealize.SL Idealize.SL.RA Idealize.SL.BI
open scoped Idealize.SL.BI
open Idealize.SL.BI.BIBase Idealize.SL.BI.Laws Idealize.SL.ProofMode Idealize.SL.Sem

variable {F : FTy → Type} [FloatOps F]

variable (m : (ℓ : Loc nD τ sig) → Buf (Elt F) ℓ)

/-! ## The output array after the last block -/

/-- A column the block of point `t` holds. -/
theorem mem_block (t : Fin grid1.N) (i : S737856.Idx) (h : 65536 * t.val ≤ (i 0).val) (h' : (i 0).val < 65536 * (t.val + 1)) :
    i ∈ (win1_3.blk t).view.setOn Finset.univ := by
  have hi : (i 0).val < 737856 := (i 0).isLt
  have hw : (i 0).val - 65536 * t.val < width t := by simp only [width]; omega
  refine Finset.mem_map.mpr ⟨fun | 0 => ⟨(i 0).val - 65536 * t.val, lt_of_lt_of_eq hw (size1_3 t).symm⟩, Finset.mem_univ _, funext fun a => Fin.ext ?_⟩
  match a with
  | 0 =>
    show (win1_3.rect t).off 0 + 1 * ((i 0).val - 65536 * t.val) = (i 0).val
    rw [off1_3]; omega

/-- Once the blocks below point `n` are written, the columns below `65536 n` hold what they are to hold. -/
theorem arrAt_below (hF : SumsHit F) (c : Dev nD) (n : ℕ) (hn : n ≤ grid1.N) :
    ∀ G : S737856.Idx → Elt F .f32, (rdat m c).ArrAt 3 n G → ∀ i : S737856.Idx, (i 0).val < 65536 * n → G i = tail m c i := by
  induction n with
  | zero => intro G _ i h; exact absurd h (by omega)
  | succ n ih =>
    intro G hG i hi
    have hlt : n < grid1.N := hn
    unfold RDat.ArrAt at hG
    simp only [] at hG
    rw [dif_pos (show n < cfg1.N from hlt), if_pos (flush1_3 ⟨n, hlt⟩)] at hG
    obtain ⟨G₀, X, h₀, ⟨Y, -, hX⟩, rfl⟩ := hG
    have hX : Left m c ⟨n, hlt⟩ X := hX
    have hcut : win1_3.cut (grid1.coords ⟨n, hlt⟩) X = (win1_3.blk ⟨n, hlt⟩).view.read (Elt F) (tail m c) := by
      funext y
      have hy : (y 0).val < width ⟨n, hlt⟩ := lt_of_lt_of_eq (y 0).isLt (size1_3 _)
      refine (hX hF (win1_3.xinj _ y) hy).trans (congrArg (tail m c) (funext fun a => Fin.ext ?_))
      match a with
      | 0 =>
        show 65536 * n + (y 0).val = (win1_3.rect ⟨n, hlt⟩).off 0 + 1 * (y 0).val
        rw [off1_3, Nat.one_mul]
    show (win1_3.blk ⟨n, hlt⟩).view.write (Elt F) G₀ (win1_3.cut (grid1.coords ⟨n, hlt⟩) X) Finset.univ i = _
    rw [hcut, View.write_read_eq_piecewise]
    by_cases h : i ∈ (win1_3.blk ⟨n, hlt⟩).view.setOn Finset.univ
    · rw [Finset.piecewise_eq_of_mem _ _ _ h]
    · rw [Finset.piecewise_eq_of_notMem _ _ _ h]
      refine ih (by omega) G₀ h₀ i ?_
      by_contra hge
      exact h (mem_block ⟨n, hlt⟩ i (by show 65536 * n ≤ _; omega) hi)

/-- After the last block, the whole output array. -/
theorem arrAt_out (hF : SumsHit F) (c : Dev nD) (G : S737856.Idx → Elt F .f32) (h : (rdat m c).ArrAt 3 cfg1.N G) : G = tail m c :=
  funext fun i => arrAt_below m hF c grid1.N le_rfl G h i (by
    have : (i 0).val < 737856 := (i 0).isLt
    rw [N_1]; omega)

/-! ## The region -/

/-- No pipeline has a prefetched table. -/
abbrev adm : (p : Fin 1) → (pcfgs (F := F) p).Adm := fun p => (cfgs p).toPCfg_adm

/-- The pipelines' data. -/
abbrev rdats : (p : Fin 1) → (c : Dev nD) → RDat τ (Elt F) (SparseCore.Cfg.HIx 1) ℕ UU ℕ (Pipeline.pin (pcfgs (F := F)) adm p) c :=
  fun _ c => rdat m c

/-- What the core owes at the region: nothing, its recorded pairs bounded. -/
abbrev owesNone (c : Dev nD) : sProp (MM F) := iprop(∃ W, ⌜(K (F := F)).WBelow (T c) W 8⌝ ∗ owes (T c) 0 W)

/-- The inputs as at launch and the output array at `G`. -/
abbrev tcArrays (c : Dev nD) (G : S737856.Idx → Elt F .f32) : sProp (MM F) :=
  iprop((aLoc c ↦{fullShare} m (aLoc c)) ∗ (dLoc c ↦{fullShare} m (dLoc c)) ∗ (hLoc c ↦{fullShare} m (hLoc c)) ∗ (pLoc c ↦{fullShare} G))

/-- The windows' arrays, one by one. -/
theorem arrays_eq (c : Dev nD) (G : (w : Fin 4) → Buf (Elt F) ((cfg1.win w).arr.view.loc (T c))) (h0 : G 0 = m (aLoc c)) (h1 : G 1 = m (dLoc c)) (h2 : G 2 = m (hLoc c)) :
    (bigSep Finset.univ fun w : Fin 4 => (cfg1.win w).arr.view.loc (T c) ↦[(cfg1.win w).arr.view.set]{(rdat m c).share w} G w : sProp (MM F))
      = tcArrays m c (G 3) := by
  rw [bigSep_W1, h0, h1, h2]
  have e (b : Ref sig .tc) : (Memref.whole b).view.set = Finset.univ := View.set_whole _
  refine congrArg₂ _ ?_ (congrArg₂ _ ?_ (congrArg₂ _ ?_ ?_))
  · exact congrArg (fun I => ((aLoc c ↦[I]{fullShare} m (aLoc c)) : sProp (MM F))) (e main_arg0)
  · exact congrArg (fun I => ((dLoc c ↦[I]{fullShare} m (dLoc c)) : sProp (MM F))) (e main_arg2)
  · exact congrArg (fun I => ((hLoc c ↦[I]{fullShare} m (hLoc c)) : sProp (MM F))) (e main_arg1)
  · exact congrArg (fun I => ((pLoc c ↦[I]{fullShare} G 3) : sProp (MM F))) (e main_v1)

theorem waits_sub (c : Dev nD) (W : Finset (SemLoc sig × SparseCore.Cfg.HIx 1)) (h : (K (F := F)).WBelow (T c) W 8) :
    (↑W : Set (SemLoc sig × SparseCore.Cfg.HIx 1)) ⊆ (rdat m c).bound none 0 := fun p hp => Or.inl (h p hp)

theorem sub_waits (c : Dev nD) (W : Finset (SemLoc sig × SparseCore.Cfg.HIx 1)) (h : (↑W : Set (SemLoc sig × SparseCore.Cfg.HIx 1)) ⊆ (rdat m c).bound none (Fin.last cfg1.N)) :
    (K (F := F)).WBelow (T c) W 8 := fun p hp => by
  rcases h hp with h | ⟨w, s, rfl⟩
  · exact h
  · exact Nat.zero_le _

/-- The region is entered with the arrays at their launch contents and nothing owed. -/
theorem entry (c : Dev nD) :
    (iprop((tcArrays m c (m (pLoc c)) ∗ owesNone c) ∗ emp ∗ levAts (K (F := F)).L (K (F := F)).lev) : sProp (MM F))
      ⊢ |={Set.univ}=> iprop((rdat m c).arrays (rdat m c).A ∗ emp ∗ (rdat m c).owesAt none 0 ∗ emp ∗ emp) := by
  rw [show (rdat m c).arrays (rdat m c).A = tcArrays m c (m (pLoc c)) from arrays_eq m c (rdat m c).A rfl rfl rfl]
  iintro ⟨⟨Ha, %W, %hW, HO⟩, -, -⟩
  imodintro
  isplitl [Ha]; · iexact Ha
  isplitr; · iempintro
  isplitl [HO]
  · iexists W; isplitr; · ipureintro; exact waits_sub m c W hW
    iexact HO
  isplitr <;> iempintro

/-- It is left with the inputs unchanged and the output written. -/
theorem exit (c : Dev nD) :
    (iprop((rdat m c).arraysAt cfg1.N ∗ (rdat m c).owesAt none (Fin.last cfg1.N) ∗ emp ∗ emp) : sProp (MM F))
      ⊢ |={Set.univ}=> iprop((∃ G, ⌜SumsHit F → G = tail m c⌝ ∗ tcArrays m c G) ∗ owesNone c) := by
  unfold RDat.arraysAt
  rw [bigSep_W1]
  iintro ⟨⟨⟨%A0, %h0, H0⟩, ⟨%A1, %h1, H1⟩, ⟨%A2, %h2, H2⟩, ⟨%G, %hG, H3⟩⟩, ⟨%W, %hW, HO⟩, -, -⟩
  rw [RDat.ArrAt_in _ _ rfl] at h0 h1 h2
  subst h0 h1 h2
  imodintro
  isplitr [HO]
  · iexists G
    isplitr; · ipureintro; exact fun hF => arrAt_out m hF c G hG
    have e := arrays_eq m c (fun | 0 => m (aLoc c) | 1 => m (dLoc c) | 2 => m (hLoc c) | 3 => G) rfl rfl rfl
    rw [bigSep_W1] at e
    iapply (Entails.of_eq e)
    isplitl [H0]; · iexact H0
    isplitl [H1]; · iexact H1
    isplitl [H2]; · iexact H2
    iexact H3
  · iexists W; isplitr; · ipureintro; exact sub_waits m c W hW
    iexact HO

set_option backward.isDefEq.respectTransparency.types false in
/-- The region of the TensorCore kernel. -/
def region (hr : InRange m) : RDat.RegionSeg (pcfgs (F := F)) adm (rdats m) none (defs₀ (F := F)) 𝒱₀ (K (F := F)).L (K (F := F)).lev 0 where
  win := launch1.win.to₀
  block_pos := launch1.block_pos
  stage_whole := launch1.stage_whole
  K := PEmpty
  osem k := k.elim
  ho := Pipeline.OwnSemFacts.none _
  hbody c := body_obligation m hr c
  hwaits := RDat.hwaits_of_owed_zero _ _ _ _ _ _ 0 (fun _ _ => rfl)
  pre c := iprop(tcArrays m c (m (pLoc c)) ∗ owesNone c)
  post c := iprop((∃ G, ⌜SumsHit F → G = tail m c⌝ ∗ tcArrays m c G) ∗ owesNone c)
  X _ := iprop(emp)
  Y _ := iprop(emp)
  Z _ := iprop(emp)
  hentry c := by
    rw [Pipeline.ownSems0_none, Pipeline.prefHeld_of_none _ rfl]
    exact entry m c
  hin c := by
    rw [Pipeline.prefHeld_of_none _ rfl, show (Pipeline.scopedRest (Pipeline.pin (pcfgs (F := F)) adm 0).spec c : sProp (MM F)) = BI.emp from scopedRest1_eq c]
    show iprop(emp ∗ emp ∗ emp) ⊢ (iprop(emp) : sProp (MM F))
    iintro -; iempintro
  hout c := by
    rw [Pipeline.ownSems0_none, show (Pipeline.scopedRest (Pipeline.pin (pcfgs (F := F)) adm 0).spec c : sProp (MM F)) = BI.emp from scopedRest1_eq c]
    show (iprop(emp) : sProp (MM F)) ⊢ iprop(emp ∗ emp ∗ emp)
    iintro -
    isplitl []; · iempintro
    isplitl []; · iempintro
    iempintro
  hexit c := exit m c

end Cert.Proof.Hist
-- ==== Proof.Launch.lean ====
/-
  The program's run. The TensorCore deals the arrays to the SparseCores and takes them back with the output's
  first 262144 columns written, runs its own kernel over the remaining columns, and puts the two results
  together.
-/
module

public import proofs.«01_k».proof.Proof.TcRun
public import Idealize.ShloMosaic.Lib.Pointwise

@[expose] public section

noncomputable section

namespace Cert.Proof.Hist

open Cert.KernelIdeal Cert.KernelIdeal.Gen
open Idealize.ShloMosaic
open Idealize.ShloMosaic.TcCoe
open Idealize.ShloMosaic.SparseCore (S V T)
open Idealize.ShloMosaic.SparseCore.Cfg (HIx)
open Idealize.ShloMosaic.Rounds
open Idealize.ShloMosaic.Pipeline (RDat cellsGhost toksInit)
open Idealize.SL Idealize.SL.RA Idealize.SL.BI
open scoped Idealize.SL.BI
open Idealize.SL.BI.BIBase Idealize.SL.BI.Laws Idealize.SL.ProofMode Idealize.SL.Sem

variable {F : FTy → Type} [FloatOps F]

variable (m : (ℓ : Loc nD τ sig) → Buf (Elt F) ℓ) (ρ : Dev nD → PrngReg)

/-! ## The arrays dealt to the SparseCores and taken back -/

/-- The slabs the SparseCores read. -/
abbrev slabs : Finset S32x1000000.Idx := Finset.univ.biUnion slabOf

/-- What the TensorCore keeps during the call: the arrays off the covered columns. -/
def kept (d : Dev nD) : sProp (MM F) :=
  iprop((dLoc d ↦[Finset.univ \ covered]{fullShare} m (dLoc d)) ∗ (aLoc d ↦[Finset.univ \ covered]{fullShare} m (aLoc d))
    ∗ (hLoc d ↦[Finset.univ \ slabs]{fullShare} m (hLoc d)) ∗ (oLoc d ↦[Finset.univ \ covered]{fullShare} m (oLoc d)))

/-- The call's output array after it: the delayed values on the covered columns, what it held elsewhere. -/
def head (d : Dev nD) : S1000000.Idx → Elt F .f32 := covered.piecewise (delayed m d) (m (oLoc d))

/-- The three inputs, whole, at their launch contents. -/
abbrev inputs (d : Dev nD) : sProp (MM F) :=
  iprop((aLoc d ↦{fullShare} m (aLoc d)) ∗ (dLoc d ↦{fullShare} m (dLoc d)) ∗ (hLoc d ↦{fullShare} m (hLoc d)))

/-- The whole arrays are the SparseCores' payloads and what the TensorCore keeps. -/
theorem deal (d : Dev nD) :
    (iprop(inputs m d ∗ (oLoc d ↦{fullShare} m (oLoc d))) : sProp (MM F))
      ⊢ iprop((bigSep Finset.univ fun c : Fin ((K (F := F)).nCore 0) => (P m).st 0 d c) ∗ kept m d) := by
  show _ ⊢ iprop((bigSep (Finset.univ : Finset (Fin (grid0.bound 0))) fun c => bigSep (Finset.univ : Finset (Fin (grid0.bound 1))) fun s => share m d (coordsV c s) (m (oLoc d))) ∗ kept m d)
  rw [shares_eq]
  unfold kept
  iintro ⟨⟨Ha, Hd, Hh⟩, Ho⟩
  ihave Ha := (pointsTo_split_subset (I := covered) (Finset.subset_univ _)).1 $$ Ha
  ihave Hd := (pointsTo_split_subset (I := covered) (Finset.subset_univ _)).1 $$ Hd
  ihave Hh := (pointsTo_split_subset (I := slabs) (Finset.subset_univ _)).1 $$ Hh
  ihave Ho := (pointsTo_split_subset (I := covered) (Finset.subset_univ _)).1 $$ Ho
  icases Ha with ⟨Ha, Ha'⟩
  icases Hd with ⟨Hd, Hd'⟩
  icases Hh with ⟨Hh, Hh'⟩
  icases Ho with ⟨Ho, Ho'⟩
  isplitl [Ha Hd Hh Ho]
  · isplitl [Ha Hd Hh]
    · isplitl [Hd]; · iexact Hd
      isplitl [Ha]; · iexact Ha
      iexact Hh
    iexact Ho
  isplitl [Hd']; · iexact Hd'
  isplitl [Ha']; · iexact Ha'
  isplitl [Hh']; · iexact Hh'
  iexact Ho'

/-- What comes back and what was kept are the whole arrays, the output at `head`. -/
theorem gather (d : Dev nD) :
    (iprop((bigSep Finset.univ fun c : Fin ((K (F := F)).nCore 0) => (P m).dn 0 d c) ∗ kept m d) : sProp (MM F))
      ⊢ iprop(inputs m d ∗ (oLoc d ↦{fullShare} head m d)) := by
  show iprop((bigSep (Finset.univ : Finset (Fin (grid0.bound 0))) fun c => bigSep (Finset.univ : Finset (Fin (grid0.bound 1))) fun s => share m d (coordsV c s) (delayed m d)) ∗ kept m d) ⊢ _
  rw [shares_eq]
  unfold kept head
  iintro ⟨⟨⟨Hd, Ha, Hh⟩, Ho⟩, Hd', Ha', Hh', Ho'⟩
  isplitl [Hd Ha Hh Hd' Ha' Hh']
  · isplitl [Ha Ha']
    · iapply (pointsTo_split_subset (I := covered) (Finset.subset_univ _)).2
      isplitl [Ha]; · iexact Ha
      iexact Ha'
    isplitl [Hd Hd']
    · iapply (pointsTo_split_subset (I := covered) (Finset.subset_univ _)).2
      isplitl [Hd]; · iexact Hd
      iexact Hd'
    iapply (pointsTo_split_subset (I := slabs) (Finset.subset_univ _)).2
    isplitl [Hh]; · iexact Hh
    iexact Hh'
  iapply (pointsTo_join_subset (I := covered) (Finset.subset_univ _))
  isplitl [Ho]; · iexact Ho
  iexact Ho'

/-! ## The two results put together -/

/-- Writing the delayed values of the last 737856 columns over an array that holds the delayed values on the
    columns below 262144 gives the delayed values. -/
theorem joined (d : Dev nD) :
    (Host.dynamicUpdateSlice (head m d) (tail m d) (fun _ => ((constantI S_ 32 262144#32 : IVec S_ 32) (Shape.Idx.first h_S_)).toInt) updateFits_S1000000_S737856
      : S1000000.Idx → Elt F .f32) = delayed m d := by
  funext n
  have hn : (n 0).val < 1000000 := (n 0).isLt
  rw [Host.dynamicUpdateSlice_apply]
  have hs : ∀ a : Fin S1000000.rank, Host.clampedStart S1000000 S737856 updateFits_S1000000_S737856.1
      (fun _ => ((constantI S_ 32 262144#32 : IVec S_ 32) (Shape.Idx.first h_S_)).toInt) a = 262144 := by
    intro a
    match a with | 0 => rfl
  split
  · rename_i h
    unfold tail
    refine congrArg (delayed m d) (funext fun a => Fin.ext ?_)
    have h0 := (h 0).1
    rw [hs] at h0
    match a with
    | 0 =>
      show (n 0).val - Host.clampedStart S1000000 S737856 _ _ 0 + 262144 = (n 0).val
      rw [hs]; omega
  · rename_i h
    refine Finset.piecewise_eq_of_mem _ _ _ ((mem_covered n).mpr ?_)
    by_contra h'
    refine h fun a => ?_
    rw [hs]
    match a with
    | 0 =>
      show 262144 ≤ (n 0).val ∧ (n 0).val < 262144 + 737856
      omega

/-! ## The launch element -/

/-- The rounds of the handshakes, and those of the staging buffers. -/
def u₀ : UU :=
  (initOf (K (F := F)).hsCells (K (F := F)).hsToks,
    (initOf (Pipeline.cells (nD := nD) (τ := τ) (Pipeline.pin (pcfgs (F := F)) adm) Gen.cellOf_inj) (Pipeline.launchToks (nD := nD) (τ := τ) (Pipeline.pin (pcfgs (F := F)) adm) Gen.cellOf_inj), 1))

/-- The staging buffers' rounds on device `d`. -/
def Aux (d : Dev nD) : sProp (MM F) :=
  iprop((bigSep Finset.univ fun p : Fin 1 => cellsGhost (Pipeline.pin (pcfgs (F := F)) adm) EP p d)
    ∗ (bigSep Finset.univ fun p : Fin 1 => toksInit (Pipeline.pin (pcfgs (F := F)) adm) EP p d))

theorem hu₀ : (ownU (u₀ (F := F)) : sProp (MM F))
    ⊢ |={Set.univ}=> iprop(BI.own (EH (initOf (K (F := F)).hsCells (K (F := F)).hsToks)) ∗ (bigSep Finset.univ fun d : Dev nD => Aux (F := F) d)
        ∗ bigSep Finset.univ fun thr : Thread nD τ => bigSep Finset.univ fun q : Fin 1 => (P m).x q thr) := by
  unfold u₀
  iintro Hu
  ihave H := (ownU_pair _ _) $$ Hu
  icases H with ⟨HH, Hr⟩
  ihave H := (own_pair_emb embR _ _) $$ Hr
  icases H with ⟨HP, -⟩
  imod (Pipeline.fund_ghost (Pipeline.pin (pcfgs (F := F)) adm) EP Gen.cellOf_inj) $$ HP with ⟨Hg, Ht⟩
  imodintro
  isplitl [HH]; · iexact HH
  isplitl [Hg Ht]
  · unfold Aux
    rw [bigSep_sep']
    isplitl [Hg]; · iexact Hg
    iexact Ht
  unfold P; dsimp only
  iapply (Entails.of_eq (show (iprop(emp) : sProp (MM F)) = bigSep Finset.univ fun _ : Thread nD τ => bigSep Finset.univ fun _ : Fin 1 => (iprop(emp) : sProp (MM F)) from
    ((bigSep_congr fun _ _ => bigSep_emp_const _).trans (bigSep_emp_const _)).symm))
  iempintro

/-! ## The program on the TensorCore -/

abbrev v0' : DevRef τ sig := Proc.devRef .tc (main_v0 : Ref sig .tc)
abbrev v1' : DevRef τ sig := Proc.devRef .tc (main_v1 : Ref sig .tc)
abbrev c' : DevRef τ sig := Proc.devRef .tc (main_c : Ref sig .tc)
abbrev v2' : DevRef τ sig := Proc.devRef .tc (main_v2 : Ref sig .tc)

abbrev cLoc (d : Dev nD) : Loc nD τ sig := (SparseCore.T d : Thread nD τ).loc main_c
/-- The program's result. -/
abbrev rLoc (d : Dev nD) : Loc nD τ sig := (SparseCore.T d : Thread nD τ).loc main_v2

/-- The column the second result starts at. -/
abbrev opC : HloOp τ sig (Elt F) := StableHlo.nullary main_c (constantI S_ 32 262144#32)
/-- The second result written over the first from there on. -/
abbrev opU : HloOp τ sig (Elt F) :=
  StableHlo.binaryIndexed main_v0 main_v1 ![main_c] ⟨S_, .i32⟩ main_v2 ((fun x u i => Host.dynamicUpdateSlice x u (fun k => (i k (Shape.Idx.first h_S_)).toInt) updateFits_S1000000_S737856) : (⟨S1000000, .f32⟩ : BufTy).Contents (Elt F) → (⟨S737856, .f32⟩ : BufTy).Contents (Elt F) → (Fin 1 → (⟨S_, .i32⟩ : BufTy).Contents (Elt F)) → (⟨S1000000, .f32⟩ : BufTy).Contents (Elt F))

/-- The buffers of the two host operations. -/
abbrev S4 : Finset (DevRef τ sig) := {v0', v1', c', v2'}

omit [FloatOps F] in
theorem held_S4 (d : Dev nD) (W : Valuation τ sig (Elt F)) :
    (StableHlo.held (T d) S4 W : sProp (MM F)) = iprop((oLoc d ↦{fullShare} W v0') ∗ (pLoc d ↦{fullShare} W v1') ∗ (cLoc d ↦{fullShare} W c') ∗ (rLoc d ↦{fullShare} W v2')) := by
  unfold StableHlo.held S4
  rw [SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp (MM F)) = iprop((aLoc d ↦{fullShare} W main_arg0) ∗ (hLoc d ↦{fullShare} W main_arg1) ∗ (dLoc d ↦{fullShare} W main_arg2)
      ∗ (oLoc d ↦{fullShare} W main_v0) ∗ (pLoc d ↦{fullShare} W main_v1) ∗ (cLoc d ↦{fullShare} W main_c) ∗ (rLoc d ↦{fullShare} W main_v2)) := by
  unfold unscopedBufs
  rw [show (Finset.univ.filter fun b : Ref sig .tc => ¬ b.isScoped) = {main_arg0, main_arg1, main_arg2, main_v0, main_v1, main_c, main_v2} by decide,
    SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

/-- The contents the host operations find: the two kernels' results, the rest as at launch. -/
def found (d : Dev nD) (G : S737856.Idx → Elt F .f32) : Valuation τ sig (Elt F) :=
  Function.update (Function.update (fun b => m (d, b)) v0' (head m d)) v1' G

theorem found_v0 (d : Dev nD) (G : S737856.Idx → Elt F .f32) : found m d G v0' = head m d :=
  (Function.update_of_ne (show v0' ≠ v1' by decide) _ _).trans (Function.update_self _ _ _)
theorem found_v1 (d : Dev nD) (G : S737856.Idx → Elt F .f32) : found m d G v1' = G := Function.update_self _ _ _
theorem found_c (d : Dev nD) (G : S737856.Idx → Elt F .f32) : found m d G c' = m (cLoc d) :=
  (Function.update_of_ne (show c' ≠ v1' by decide) _ _).trans (Function.update_of_ne (show c' ≠ v0' by decide) _ _)
theorem found_v2 (d : Dev nD) (G : S737856.Idx → Elt F .f32) : found m d G v2' = m (rLoc d) :=
  (Function.update_of_ne (show v2' ≠ v1' by decide) _ _).trans (Function.update_of_ne (show v2' ≠ v0' by decide) _ _)

/-- After both operations the result holds the two kernels' results put together. -/
theorem result_v2 (d : Dev nD) (G : S737856.Idx → Elt F .f32) :
    (opU (F := F)).result ((opC (F := F)).result (found m d G)) v2'
      = (Host.dynamicUpdateSlice (head m d) G (fun _ => ((constantI S_ 32 262144#32 : IVec S_ 32) (Shape.Idx.first h_S_)).toInt) updateFits_S1000000_S737856
      : S1000000.Idx → Elt F .f32) := by
  have h0 : (opC (F := F)).result (found m d G) v0' = head m d :=
    ((opC (F := F)).result_of_not_mem _ (show v0' ∉ ({c'} : Finset (DevRef τ sig)) by decide)).trans (found_v0 m d G)
  have h1 : (opC (F := F)).result (found m d G) v1' = G :=
    ((opC (F := F)).result_of_not_mem _ (show v1' ∉ ({c'} : Finset (DevRef τ sig)) by decide)).trans (found_v1 m d G)
  have hc : (opC (F := F)).result (found m d G) c' = constantI S_ 32 262144#32 := StableHlo.nullary_result _ _ _ _
  refine (StableHlo.binaryIndexed_result main_v0 main_v1 ![main_c] ⟨S_, .i32⟩ main_v2 _ _ _ _ _ _ _).trans ?_
  rw [h0, h1]
  refine congrArg (fun s => Host.dynamicUpdateSlice (head m d) G s updateFits_S1000000_S737856) (funext fun k => ?_)
  match k with
  | 0 => exact congrArg (fun g : S_.Idx → BitVec 32 => (g (Shape.Idx.first h_S_)).toInt) hc

theorem hC : (opC (F := F)).bufs ⊆ S4 := show ({c'} : Finset (DevRef τ sig)) ⊆ S4 by decide
theorem hU : (opU (F := F)).bufs ⊆ S4 :=
  show insert v0' (insert v1' (insert v2' (Finset.univ.image fun k : Fin 1 => (Proc.devRef .tc ((![main_c] : Fin 1 → Ref sig .tc) k) : DevRef τ sig)))) ⊆ S4 by decide

/-- What the program leaves: the inputs as at launch, the result at the delayed values. -/
def FIN (d : Dev nD) : sProp (MM F) :=
  iprop(∃ R : S1000000.Idx → Elt F .f32, ⌜SumsHit F → R = delayed m d⌝ ∗ inputs m d ∗ (rLoc d ↦{fullShare} R))

omit [FloatOps F] in
/-- What is held of every pipeline is held of the one there is. -/
theorem at_zero (Φ : Fin 1 → sProp (MM F)) : bigSep Finset.univ Φ ⊢ Φ 0 := by
  rw [show (Finset.univ : Finset (Fin 1)) = {0} by decide, bigSep_singleton]

/-- The region's entry is the pipeline's own, lifted. -/
theorem entry_lift :
    (Prog.lift (.customCall (SparseCore.inner (Pipeline.entry 0)) ()) : Prog (TpuEff nD τ sig (Elt F) (SparseCore.Sig (ΛP (F := F)) 1) .tc) PUnit)
      = SparseCore.liftProg (Prog.lift (.customCall (Pipeline.entry 0) ())) := rfl

set_option backward.isDefEq.respectTransparency.types false in
/-- The region, run: the TensorCore's kernel from the inputs and its output array, nothing owed. -/
theorem region_run (hr : InRange m) [∀ e, Nonempty (Elt F e)] (κ : GSem nD τ sig → ℕ) (d : Dev nD) :
    (iprop((K (F := F)).ctx EH (P m) κ ∗ boundary (T d) ∗ Aux (F := F) d ∗ inputs m d ∗ (pLoc d ↦{fullShare} m (pLoc d)) ∗ owesNone (F := F) d) : sProp (MM F))
      ⊢ wp frame (wpE ((K (F := F)).defs (D (F := F))) 𝒱 (T d) none) Set.univ
          (Prog.lift (.customCall (SparseCore.inner (Pipeline.entry 0)) ()))
          fun _ => iprop(boundary (T d) ∗ (∃ G, ⌜SumsHit F → G = tail m d⌝ ∗ tcArrays m d G) ∗ owesNone (F := F) d) := by
  rw [entry_lift]
  refine BI.Entails.trans ?_ ((K (F := F)).wp_liftProg (D (F := F)) 𝒱 (T d) Set.univ none _ _)
  refine BI.Entails.trans ?_ (RDat.RegionSeg.wp pcfgs adm (rdats m) none Gen.cellOf_inj EP defs₀ 𝒱₀ (K (F := F)).L (K (F := F)).lev (region m hr) d none (fun _ h => nomatch h) _ _)
  have eg : (bigSep Finset.univ fun p : Fin 1 => cellsGhost (Pipeline.pin (pcfgs (F := F)) adm) EP p d : sProp (MM F)) ⊢ cellsGhost (Pipeline.pin (pcfgs (F := F)) adm) EP 0 d := at_zero _
  have et : (bigSep Finset.univ fun p : Fin 1 => toksInit (Pipeline.pin (pcfgs (F := F)) adm) EP p d : sProp (MM F)) ⊢ toksInit (Pipeline.pin (pcfgs (F := F)) adm) EP 0 d := at_zero _
  rw [show (region m hr).pre d = iprop(tcArrays m d (m (pLoc d)) ∗ owesNone d) from rfl,
    show (region m hr).post d = iprop((∃ G, ⌜SumsHit F → G = tail m d⌝ ∗ tcArrays m d G) ∗ owesNone d) from rfl]
  unfold Aux
  show (_ : sProp (MM F)) ⊢ _
  iintro ⟨#Hctx, Hb, ⟨Hg, Ht⟩, ⟨Ha, Hd, Hh⟩, Hp, HO⟩
  isplitr
  · iintro ⟨Hb, Hp⟩
    rw [wp_ret]; imodintro
    isplitl [Hb]; · iexact Hb
    iexact Hp
  isplitl [Hb]; · iexact Hb
  isplitl [Ha Hd Hh Hp HO]
  · isplitl [Ha Hd Hh Hp]
    · isplitl [Ha]; · iexact Ha
      isplitl [Hd]; · iexact Hd
      isplitl [Hh]; · iexact Hh
      iexact Hp
    iexact HO
  isplitr; · iapply ((K (F := F)).ctx_levAts κ); iexact Hctx
  isplitl [Hg]
  · iapply eg; iexact Hg
  iapply et; iexact Ht

/-- The host operations: the two kernels' results put together in the result buffer. -/
theorem host_run (d : Dev nD) (G : S737856.Idx → Elt F .f32) (hG : SumsHit F → G = tail m d) :
    (iprop(boundary (T d) ∗ (oLoc d ↦{fullShare} head m d) ∗ (pLoc d ↦{fullShare} G) ∗ (cLoc d ↦{fullShare} m (cLoc d)) ∗ (rLoc d ↦{fullShare} m (rLoc d))) : sProp (MM F))
      ⊢ wp frame (wpE ((K (F := F)).defs (D (F := F))) 𝒱 (T d) none) Set.univ
          (do hlo rfl (opC (F := F)) (fun _ => .ret ⟨⟩); hlo rfl (opU (F := F)) (fun _ => .ret ⟨⟩); pure (⟨⟩ : PUnit))
          fun _ => iprop(boundary (T d) ∗ ∃ R : S1000000.Idx → Elt F .f32, ⌜SumsHit F → R = delayed m d⌝ ∗ (rLoc d ↦{fullShare} R)) := by
  simp only [wp_bind, wp_pure]
  iintro ⟨Hb, Ho, Hp, Hc, Hr⟩
  iapply (StableHlo.wp_hlo_within 𝒱 (SparseCore.T d) none Set.univ (op := opC) (S := S4) hC (V := found m d G)) $$ [Hb Ho Hp Hc Hr]
  · isplitl [Hb]; · iexact Hb
    rw [held_S4, found_v0, found_v1, found_c, found_v2]
    isplitl [Ho]; · iexact Ho
    isplitl [Hp]; · iexact Hp
    isplitl [Hc]; · iexact Hc
    iexact Hr
  iintro ⟨Hb, Hheld⟩
  rw [wp_ret]; imodintro
  iapply (StableHlo.wp_hlo_within 𝒱 (SparseCore.T d) none Set.univ (op := opU) (S := S4) hU (V := (opC (F := F)).result (found m d G))) $$ [Hb Hheld]
  · isplitl [Hb]; · iexact Hb
    iexact Hheld
  iintro ⟨Hb, Hheld⟩
  ihave Hh := (Entails.of_eq (held_S4 (F := F) d _)) $$ Hheld
  icases Hh with ⟨-, -, -, Hr⟩
  rw [wp_ret]; imodintro; imodintro
  isplitl [Hb]; · iexact Hb
  iexists _
  isplitr
  · ipureintro
    exact fun hF => (result_v2 m d G).trans (by rw [hG hF]; exact joined m d)
  iexact Hr

/-- The program on device `d`'s TensorCore: the SparseCore call, the region, the host operations. -/
theorem hmain (hr : InRange m) [∀ e, Nonempty (Elt F e)] (κ : GSem nD τ sig → ℕ) (d : Dev nD) :
    iprop((K (F := F)).ctx EH (P m) κ ∗ (K (F := F)).tcSt EH d 0 ∗ (K (F := F)).tcRes m ρ d ∗ Aux (F := F) d)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd main
  rw [unscopedBufs_eq, wp_bind]
  iintro ⟨#Hctx, Hst, ⟨Hb, ⟨Ha, Hh, Hd, Ho, Hp, Hc, Hr⟩, Hts, -⟩, Haux⟩
  ihave Hpay := (deal m d) $$ [Ha Hh Hd Ho]
  · isplitl [Ha Hh Hd]
    · isplitl [Ha]; · iexact Ha
      isplitl [Hd]; · iexact Hd
      iexact Hh
    iexact Ho
  icases Hpay with ⟨Hpay, Hkept⟩
  iapply ((K (F := F)).wp_run (D (F := F)) 𝒱 (EH := EH) (P := P m) κ d 0) $$ [Hst Hpay Hkept Hb Hts Hp Hc Hr Haux]
  isplitr; · iexact Hctx
  isplitl [Hst]; · iexact Hst
  isplitl [Hpay]; · iexact Hpay
  iintro ⟨Hst, Hdn⟩
  ihave Hback := (gather m d) $$ [Hdn Hkept]
  · isplitl [Hdn]; · iexact Hdn
    iexact Hkept
  icases Hback with ⟨Hin, Ho⟩
  unfold SparseCore.Cfg.tcSt
  icases Hst with ⟨⟨%W, %hW, HO⟩, Hrest⟩
  rw [wp_bind]
  iapply ((region_run m hr κ d).trans (wp_wand frame _ _)) $$ [Hb Haux Hin Hp HO]
  · isplitr; · iexact Hctx
    isplitl [Hb]; · iexact Hb
    isplitl [Haux]; · iexact Haux
    isplitl [Hin]; · iexact Hin
    isplitl [Hp]; · iexact Hp
    iexists W
    isplitr; · ipureintro; exact hW
    rw [show (K (F := F)).Otc d ((0 : Fin 1).val + 1) = 0 from (K (F := F)).Otc_end d le_rfl]
    iexact HO
  iintro %_ ⟨Hb, ⟨%G, %hG, Ha, Hd, Hh, Hp⟩, ⟨%W', %hW', HO⟩⟩
  iapply ((host_run m d G hG).trans (wp_wand frame _ _)) $$ [Hb Ho Hp Hc Hr]
  · isplitl [Hb]; · iexact Hb
    isplitl [Ho]; · iexact Ho
    isplitl [Hp]; · iexact Hp
    isplitl [Hc]; · iexact Hc
    iexact Hr
  iintro %_ ⟨Hb, %R, %hR, Hr⟩
  isplitl [HO Hrest]
  · isplitl [HO]
    · iexists W'
      isplitr; · ipureintro; exact hW'
      rw [show (K (F := F)).Otc d 1 = 0 from (K (F := F)).Otc_end d le_rfl]
      iexact HO
    iexact Hrest
  isplitr [Hb Hts]
  · unfold FIN
    iexists R
    isplitr; · ipureintro; exact hR
    isplitl [Ha Hd Hh]
    · isplitl [Ha]; · iexact Ha
      isplitl [Hd]; · iexact Hd
      iexact Hh
    iexact Hr
  isplitl [Hb]; · iexact Hb
  iexact Hts

/-! ## The run -/

/-- What a final state holds on device `d`: the inputs unchanged, the result at the delayed values. -/
def fq (d : Dev nD) (s' : Phys nD τ sig (Elt F)) : Prop :=
  (s'.mem.mem (aLoc d) = m (aLoc d) ∧ s'.mem.mem (hLoc d) = m (hLoc d) ∧ s'.mem.mem (dLoc d) = m (dLoc d))
    ∧ (SumsHit F → s'.mem.mem (rLoc d) = delayed m d)

omit [FloatOps F] in
/-- A buffer owned whole is what the state holds. -/
theorem agrees (s' : Phys nD τ sig (Elt F)) (ℓ : Loc nD τ sig) (f : Buf (Elt F) ℓ) :
    (iprop(SI s' ∗ (ℓ ↦{fullShare} f)) : sProp (MM F)) ⊢ ⌜s'.mem.mem ℓ = f⌝ := by
  refine (SI_pointsTo_agree (st := s') (ℓ := ℓ) (I := Finset.univ) (q := fullShare) (f := f)).trans ?_
  iintro %h
  ipureintro
  exact funext fun i => h i (Finset.mem_univ i)

theorem hfin (d : Dev nD) (s' : Phys nD τ sig (Elt F)) : (iprop(FIN m d ∗ SI s') : sProp (MM F)) ⊢ ⌜fq m d s'⌝ := by
  unfold FIN
  iintro ⟨⟨%R, %hR, ⟨Ha, Hd, Hh⟩, Hr⟩, HSI⟩
  ihave H := (persistent_entails_right (agrees s' (aLoc d) (m (aLoc d)))) $$ [HSI Ha]
  · isplitl [HSI]; · iexact HSI
    iexact Ha
  icases H with ⟨%ha, HSI, -⟩
  ihave H := (persistent_entails_right (agrees s' (hLoc d) (m (hLoc d)))) $$ [HSI Hh]
  · isplitl [HSI]; · iexact HSI
    iexact Hh
  icases H with ⟨%hh, HSI, -⟩
  ihave H := (persistent_entails_right (agrees s' (dLoc d) (m (dLoc d)))) $$ [HSI Hd]
  · isplitl [HSI]; · iexact HSI
    iexact Hd
  icases H with ⟨%hd, HSI, -⟩
  ihave H := (agrees s' (rLoc d) R) $$ [HSI Hr]
  · isplitl [HSI]; · iexact HSI
    iexact Hr
  icases H with %h
  ipureintro
  exact ⟨⟨ha, hh, hd⟩, fun hF => h.trans (hR hF)⟩

/-- What the run ends with: on every device the inputs unchanged and the result at the delayed values, and every
    semaphore at zero. -/
def QC : PUnit × MemSt nD τ sig (Elt F) → Prop := fun r =>
  (∀ d : Dev nD, (r.2.mem (aLoc d) = m (aLoc d) ∧ r.2.mem (hLoc d) = m (hLoc d) ∧ r.2.mem (dLoc d) = m (dLoc d))
    ∧ (SumsHit F → r.2.mem (rLoc d) = delayed m d)) ∧ r.2.sem = fun _ => 0

/-- From a memory with every delay in range the program runs to such an end. -/
theorem run_main (hr : InRange m) [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts (Sum.inl none)
    (fun q hq => match q with | 0 => nomatch hq)
    (fun q _ => match q with | 0 => tileObl m hr)
    (fun q _ => match q with | 0 => SparseCore.Cfg.VecSplit.of_plain (vecSplit m))
    m ρ main (fun d => Aux (F := F) d) (FIN m) (u₀ (F := F)) (sep_elim_left.trans (hu₀ m)) (hmain m ρ hr) (fq m) (hfin m) (QC m) (fun _ h hz => ⟨h, hz⟩)

end Cert.Proof.Hist
-- ==== Proof.Reference.lean ====
/-
  The reference's value. From delays in range, the array the reference computes — the current values pushed in
  front of the history, gathered down each column at its delay — holds at column `n` the current value where
  the delay is 0 and the history's row `delay - 1` elsewhere.
-/
module

public import proofs.«01_k».proof.Proof.Call
public import proofs.«01_k».proof.Proof.Gen.ReferenceIdeal.Run
public import proofs.«01_k».proof.Proof.Gen.Pre_in_range
public import Idealize.ShloMosaic.Lib.Pointwise
public import Idealize.ShloMosaic.Lib.ValueIdxCore
public import Idealize.ShloMosaic.Lib.ReduceAll

@[expose] public section

noncomputable section

namespace Cert.Proof.Ref

open Cert.ReferenceIdeal Cert.ReferenceIdeal.Gen
open Idealize.ShloMosaic

variable {F : FTy → Type} [FloatOps F]

/-! ## The precondition -/

/-- The precondition says that every delay is below 32. -/
theorem lt_of_pre (a : FVec F S1000000 .f32) (h : FVec F S32x1000000 .f32) (d : IVec S1000000 32)
    (hp : Cert.Pre_in_range.fn a h d = fun _ => 1#1) (n : S1000000.Idx) : (d n).toNat < 32 := by
  have e := congrFun hp ValueIdx.ix0
  unfold Cert.Pre_in_range.fn at e
  dsimp only at e
  haveI : Subsingleton Cert.Pre_in_range.S_.Idx := ⟨fun x y => funext fun a => a.elim0⟩
  have e := Host.reduce_andi_all _ _ _ _ _ e n
  rw [andi_apply, IntOp.andi_eq_one] at e
  obtain ⟨e1, e2⟩ := e
  have h1 : (0#32).sle (d n) = true := by
    by_contra hc
    have : IntOp.cmpi .sge (d n) 0#32 = 0#1 := by
      show BitVec.ofBool ((0#32).sle (d n)) = 0#1
      rw [Bool.not_eq_true] at hc; rw [hc]; rfl
    exact absurd (this.symm.trans e1) (by decide)
  have h2 : (d n).slt 32#32 = true := by
    by_contra hc
    have : IntOp.cmpi .slt (d n) 32#32 = 0#1 := by
      show BitVec.ofBool ((d n).slt 32#32) = 0#1
      rw [Bool.not_eq_true] at hc; rw [hc]; rfl
    exact absurd (this.symm.trans e2) (by decide)
  rw [BitVec.sle_eq_decide, decide_eq_true_eq] at h1
  rw [BitVec.slt_eq_decide, decide_eq_true_eq] at h2
  have hi := BitVec.toInt_eq_toNat_cond (d n)
  have h0 : (0#32).toInt = 0 := by decide
  have h32 : (32#32).toInt = 32 := by decide
  have hl := (d n).isLt
  rw [h0] at h1
  rw [h32] at h2
  split at hi <;> omega

/-! ## The value -/

/-- The array's column of a row-and-column index. -/
abbrev colIx (j : S1x1000000.Idx) : S1000000.Idx := ValueIdx.ix1 (⟨(j 1).val, (j 1).isLt⟩ : Fin 1000000)

/-- A row spread over a one-row table. -/
theorem row_apply {α : Type} (x : S1000000.Idx → α) (j : S1x1000000.Idx) :
    broadcastInDim S1x1000000 ![1] bcast_S1000000_S1x1000000_1 x j = x (colIx j) := by
  rw [Pointwise.broadcastInDim_apply]
  refine congrArg x ((Shape.Idx.norm_def _).trans (funext fun a => ?_))
  match a with | 0 => rfl

/-- A delay in range is nonnegative read signed, and is its own value. -/
theorem toInt_of_lt {w : BitVec 32} (h : w.toNat < 32) : w.toInt = w.toNat := by
  have hi := BitVec.toInt_eq_toNat_cond w
  split at hi <;> omega

variable (d : S1000000.Idx → BitVec 32) (hd : ∀ n, (d n).toNat < 32)

/-- The delays as a table of one row, with 32 added to the negative ones. -/
abbrev wrapped : S1x1000000.Idx → BitVec 32 :=
  select (cmpi .slt (broadcastInDim S1x1000000 ![1] bcast_S1000000_S1x1000000_1 d) (broadcastInDim S1x1000000 ![] bcast_S_S1x1000000 (constantI S_ 32 0#32)))
    (addi (broadcastInDim S1x1000000 ![1] bcast_S1000000_S1x1000000_1 d) (broadcastInDim S1x1000000 ![] bcast_S_S1x1000000 (constantI S_ 32 32#32)))
    (broadcastInDim S1x1000000 ![1] bcast_S1000000_S1x1000000_1 d)

/-- The rows to gather. -/
abbrev rows : S1x1000000x1.Idx → BitVec 32 := shapeCast S1x1000000x1 (wrapped d) shapeCasts_S1x1000000_S1x1000000x1

include hd in
/-- None is negative, so the table is the delays. -/
theorem wrapped_apply (j : S1x1000000.Idx) : wrapped d j = d (colIx j) := by
  unfold wrapped
  show Scalar.select (IntOp.cmpi .slt (broadcastInDim S1x1000000 ![1] bcast_S1000000_S1x1000000_1 d j) 0#32) _ (broadcastInDim S1x1000000 ![1] bcast_S1000000_S1x1000000_1 d j) = _
  rw [row_apply]
  have : IntOp.cmpi .slt (d (colIx j)) 0#32 = 0#1 := by
    show BitVec.ofBool ((d (colIx j)).slt 0#32) = 0#1
    have : (d (colIx j)).slt 0#32 = false := by
      rw [BitVec.slt_eq_decide, toInt_of_lt (hd _)]
      have : (0#32).toInt = 0 := by decide
      rw [this]
      exact decide_eq_false (by omega)
    rw [this]; rfl
  rw [this]; rfl

include hd in
theorem rows_apply (j : S1x1000000x1.Idx) : rows d j = d (ValueIdx.ix1 (⟨(j 1).val, (j 1).isLt⟩ : Fin 1000000)) := by
  unfold rows
  rw [Pointwise.shapeCast_apply]
  have h0 : (j 0).val = 0 := by have : (j 0).val < 1 := (j 0).isLt; omega
  have h2 : (j 2).val = 0 := by have : (j 2).val < 1 := (j 2).isLt; omega
  have e : Shape.reshapeEquiv shapeCasts_S1x1000000_S1x1000000x1 j = (ValueIdx.ix2 (⟨0, by omega⟩ : Fin 1) (⟨(j 1).val, (j 1).isLt⟩ : Fin 1000000) : S1x1000000.Idx) := by
    refine Shape.reshapeEquiv_eq_of_rowMajor _ ?_
    rw [Shape.rowMajor_val_two, Shape.rowMajor_val_three, h0, h2]
    simp
  rw [e]
  exact wrapped_apply d hd _

/-- The mask of the rows within bounds. -/
abbrev mask : S1x1000000.Idx → BitVec 1 :=
  Host.reduce IntOp.andi (andi (cmpi .sge (rows d) (broadcastInDim S1x1000000x1 ![] bcast_S_S1x1000000x1 (constantI S_ 32 0#32)))
    (cmpi .sle (rows d) (broadcastInDim S1x1000000x1 ![0, 1, 2] bcast_S1x1x1_S1x1000000x1_0_1_2 (broadcastInDim S1x1x1 ![2] bcast_S1_S1x1x1_2 (constantI S1 32 31#32)))))
    (constantI S_ 1 1#1) reducesTo_S1x1000000x1_S1x1000000_d2 h_S_

include hd in
/-- All are. -/
theorem mask_apply (j : S1x1000000.Idx) : mask d j = 1#1 := by
  unfold mask
  refine Host.reduce_andi_one _ _ _ _ _ rfl fun i => ?_
  rw [andi_apply, IntOp.andi_eq_one]
  have hr := rows_apply d hd i
  have hl := hd (ValueIdx.ix1 (⟨(i 1).val, (i 1).isLt⟩ : Fin 1000000))
  rw [← hr] at hl
  constructor
  · show BitVec.ofBool ((0#32).sle (rows d i)) = 1#1
    have : (0#32).sle (rows d i) = true := by
      rw [BitVec.sle_eq_decide, toInt_of_lt hl]
      have : (0#32).toInt = 0 := by decide
      rw [this]
      exact decide_eq_true (by omega)
    rw [this]; rfl
  · show BitVec.ofBool ((rows d i).sle 31#32) = 1#1
    have : (rows d i).sle 31#32 = true := by
      rw [BitVec.sle_eq_decide, toInt_of_lt hl]
      have : (31#32).toInt = 31 := by decide
      rw [this]
      exact decide_eq_true (by omega)
    rw [this]; rfl

variable (a : S1000000.Idx → F .f32) (h : S32x1000000.Idx → F .f32)

/-- The history with the current values pushed in front. -/
abbrev pushed : S32x1000000.Idx → F .f32 :=
  concatenate S32x1000000 0 [⟨S1x1000000, broadcastInDim S1x1000000 ![1] bcast_S1000000_S1x1000000_1 a⟩,
    ⟨S31x1000000, extractStridedSlice S31x1000000 ![0, 0] h slices_S32x1000000_S31x1000000_0_0⟩] concatenates_S1x1000000_S31x1000000_S32x1000000_d0

/-- Row 0 is the current values, row `r` the history's row `r - 1`. -/
theorem pushed_apply (w : BitVec 32) (hw : w.toNat < 32) (n : S1000000.Idx) (i : S32x1000000.Idx) (h0 : (i 0).val = w.toNat) (h1 : (i 1).val = (n 0).val) :
    pushed a h i = if w = 0#32 then a n else h (Hist.backIx w n) := by
  unfold pushed
  rw [concatenate_pair_apply]
  by_cases hz : w = 0#32
  · subst hz
    rw [if_pos rfl, dif_pos (show (i 0).val < S1x1000000.size (Fin.cast rfl 0) by rw [h0]; decide), row_apply]
    refine congrArg a (funext fun b => Fin.ext ?_)
    match b with | 0 => exact h1
  · have hpos : 0 < w.toNat := by
      rcases Nat.eq_zero_or_pos w.toNat with e | e
      · exact absurd (BitVec.eq_of_toNat_eq (e.trans rfl)) hz
      · exact e
    rw [if_neg hz, dif_neg (show ¬ (i 0).val < S1x1000000.size (Fin.cast rfl 0) by show ¬ (i 0).val < 1; omega), Pointwise.extractStridedSlice_apply]
    refine congrArg h (funext fun b => Fin.ext ?_)
    match b with
    | 0 =>
      show 0 + ((i 0).val - 1) = (w.toNat - 1) % 32
      rw [h0]; omega
    | 1 =>
      show 0 + (i 1).val = (n 0).val
      omega

/-- The gather reads, in each column, the row its index names. -/
theorem gather_apply {α : Type} (x : S32x1000000.Idx → α) (i : IVec S1x1000000x1 32) (y : S1x1000000.Idx) :
    Host.gather gather_S32x1000000_S1x1000000x1_S1x1000000_n_0_1_1_0_2_11 x i y
      = x (ValueIdx.ix2 (⟨min (i (ValueIdx.takeIdx y)).toInt.toNat 31, by omega⟩ : Fin 32) (⟨(y 1).val, (y 1).isLt⟩ : Fin 1000000)) := by
  have hg : gather_S32x1000000_S1x1000000x1_S1x1000000_n_0_1_1_0_2_11
      = ValueIdx.takeRowsDims 32 1000000 1 gather_S32x1000000_S1x1000000x1_S1x1000000_n_0_1_1_0_2_11_wf := rfl
  rw [hg]
  exact ValueIdx.gather_take_rows_apply (by decide) _ x i y

/-- Choosing by a set bit. -/
theorem select_one {α : Type} {m : S1x1000000.Idx → BitVec 1} (x y : S1x1000000.Idx → α) {j : S1x1000000.Idx} (hm : m j = 1#1) :
    select m x y j = x j := by
  show Scalar.select (m j) (x j) (y j) = x j
  rw [hm]; rfl

include hd in
/-- The reference's result. -/
theorem value (n : S1000000.Idx) :
    shapeCast S1000000 (select (mask d) (Host.gather gather_S32x1000000_S1x1000000x1_S1x1000000_n_0_1_1_0_2_11 (pushed a h) (rows d))
        (broadcastInDim S1x1000000 ![] bcast_S_S1x1000000 (constant S_ .f32 0x7FC00000#32))) shapeCasts_S1x1000000_S1000000 n
      = if d n = 0#32 then a n else h (Hist.backIx (d n) n) := by
  rw [Pointwise.shapeCast_apply]
  have e : Shape.reshapeEquiv shapeCasts_S1x1000000_S1000000 n = (ValueIdx.ix2 (⟨0, by omega⟩ : Fin 1) (⟨(n 0).val, (n 0).isLt⟩ : Fin 1000000) : S1x1000000.Idx) := by
    refine Shape.reshapeEquiv_eq_of_rowMajor _ ?_
    rw [Shape.rowMajor_val_two, Shape.rowMajor_val_one]
    simp
  rw [e]
  rw [select_one _ _ (mask_apply d hd _), gather_apply]
  have er : rows d (ValueIdx.takeIdx (ValueIdx.ix2 (⟨0, by omega⟩ : Fin 1) (⟨(n 0).val, (n 0).isLt⟩ : Fin 1000000))) = d n := by
    rw [rows_apply d hd]
    refine congrArg d (funext fun b => ?_)
    match b with | 0 => rfl
  refine pushed_apply a h (d n) (hd n) n _ ?_ rfl
  show min (rows d _).toInt.toNat 31 = _
  rw [er, toInt_of_lt (hd n)]
  have := hd n
  omega

end Cert.Proof.Ref
-- ==== Proof.Final.lean ====
/-
  The claims, each from the kernel's run or the reference's.
-/
module

public import proofs.«01_k».proof.Defs
public import proofs.«01_k».proof.Proof.Gen.Kernel
public import proofs.«01_k».proof.Proof.Launch
public import proofs.«01_k».proof.Proof.Reference
public import Idealize.ShloMosaic.PureOps.Ideal.Laws
public import Idealize.ShloMosaic.Adequacy
public import Idealize.ShloMosaic.Init

@[expose] public section

noncomputable section

namespace Cert.Proof.Hist

open Cert.KernelIdeal Cert.KernelIdeal.Gen
open Idealize.ShloMosaic Idealize.SL.Sem

/-! ## The column sums over the extended reals -/

/-- Over the extended reals a column whose entries off row `r` are zero sums to its entry at row `r`. -/
theorem sumsHit_ideal : SumsHit Ideal := by
  intro x j r hx
  refine (Ideal.multiReduction_add_single x _ reduces_S32x65536_S65536 (.inl rfl) rfl j).trans ?_
  have el : ∀ k : Fin 32, Shape.Reduces.lift reduces_S32x65536_S65536 j k = rowOf k j := fun k => by
    funext a
    match a with
    | 0 => exact Fin.ext rfl
    | 1 => exact Fin.ext rfl
  refine (Finset.sum_eq_single (M := EReal) (r : Fin 32) (fun k _ hk => ?_) (fun h => absurd (Finset.mem_univ _) h)).trans ?_
  · rw [el k, hx k hk]
    exact Ideal.ofBits_zero_f32
  · rw [el r]

/-! ## The frames -/

/-- The run with its result dropped. -/
theorem frame_run {F : FTy → Type} [FloatOps F] [∀ e, Nonempty (Elt F e)] (m : (ℓ : Loc nD τ sig) → Buf (Elt F) ℓ) (ρ : Dev nD → PrngReg) (hr : InRange m) :
    θ_run (Cert.KernelIdeal.defs (F := F)) (Cert.KernelIdeal.threads (F := F)) ⟨m, fun _ => 0, ρ⟩
      (fun r => (∀ d : Dev nD, r.2.mem (aLoc d) = m (aLoc d) ∧ r.2.mem (hLoc d) = m (hLoc d) ∧ r.2.mem (dLoc d) = m (dLoc d)) ∧ r.2.sem = fun _ => 0) :=
  (θ_run Cert.KernelIdeal.defs _ _).mono (fun _ h => ⟨fun d => (h.1 d).1, h.2⟩) (run_main m ρ hr)

/-- The two programs have one text, so one table of kernel bodies -/
theorem bodies_eq {F : FTy → Type} [FloatOps F] : Cert.Kernel.defs₀ (F := F) = Cert.KernelIdeal.defs₀ (F := F) := by
  funext p l a
  match p, l with
  | .tc, 0 => rfl
  | .tc, 1 => rfl
  | .scVector _ _, 0 => rfl
  | .scVector _ _, 1 => rfl
  | .scScalar _, 0 => rfl
  | .scScalar _, 1 => rfl

/-- and one table of everything they call. -/
theorem defs_eq {F : FTy → Type} [FloatOps F] : Cert.Kernel.defs (F := F) = Cert.KernelIdeal.defs (F := F) :=
  congrArg (fun D => Cert.Kernel.sc.defs (Pipeline.defs Cert.Kernel.pcfgs D)) bodies_eq

/-- The kernel over machine floats runs to an end with its arguments unchanged and every semaphore at zero. -/
theorem frame_kernel : Cert.quiescent_Kernel := fun m ρ hp => by
  rw [defs_eq]
  exact frame_run (F := Bits) m ρ fun d n => Ref.lt_of_pre _ _ _ (hp d) n

/-- So does the kernel over the extended reals. -/
theorem frame_ideal : Cert.quiescent_KernelIdeal := fun m ρ hp =>
  frame_run (F := Ideal) m ρ fun d n => Ref.lt_of_pre _ _ _ (hp d) n

/-- So does the reference, from any memory. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-! ## The value -/

/-- Kernel and reference give the same array: in each column the value its delay names. -/
theorem equal : Cert.algebraic_KernelIdeal_ReferenceIdeal := by
  intro m g m' g' hp hm
  have hr : InRange m := fun d n => Ref.lt_of_pre _ _ _ (hp d) n
  refine ⟨fun d => delayed m d, ?_, ?_⟩
  · exact (θ_run Cert.KernelIdeal.defs _ _).mono (fun _ h d => ⟨(h.1 d).2 sumsHit_ideal, (h.1 d).1⟩) (run_main (F := Ideal) m g hr)
  · refine (θ_run Cert.ReferenceIdeal.defs _ _).mono (fun r h d => ⟨(h d).1.trans ?_, (h d).2⟩) (Cert.ReferenceIdeal.Value.run (F := Ideal) m' g')
    rw [(hm d).1, (hm d).2.1, (hm d).2.2]
    exact funext fun n => Ref.value (dAt m d) (hr d) (aAt m d) (hAt m d) n

end Cert.Proof.Hist
-- ==== Proof.lean ====
/-
  The certificate: every claim, assembled from `Proof/Final.lean`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_range
public import proofs.«01_k».proof.Proof.Final
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_in_range.Gen.facts,
  Hist.frame_kernel, Hist.frame_ideal, Hist.frame_reference, fun m ρ _ => Hist.frame_reference m ρ trivial, trivial, Hist.equal⟩

end Cert.Proof

end
